-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![1024, 1024]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S32 : Shape := ⟨1, ![32]⟩
abbrev S_ : Shape := ⟨0, ![]⟩
abbrev S128x512 : Shape := ⟨2, ![128, 512]⟩
abbrev S128x1024 : Shape := ⟨2, ![128, 1024]⟩
abbrev S1 : Shape := ⟨1, ![1]⟩
abbrev S16x1024 : Shape := ⟨2, ![16, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | _, _ => ⟨S1024x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v12 : BitVec 32 := Scalar.muli v6 c2_i32_7
  let v13 : BitVec 32 := Scalar.addi c0_i32 v12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v14 : BitVec 32 := Scalar.muli v5 c1_i32_8
  let v15 : BitVec 32 := Scalar.addi v13 v14
  v15.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v16 : BitVec 32 := Scalar.muli v2 c2_i32_10
  let v17 : BitVec 32 := Scalar.addi c0_i32_11 v16
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v18 : BitVec 32 := Scalar.muli v7 c1_i32_12
  let v19 : BitVec 32 := Scalar.addi v17 v18
  v19.toNat
def k0_off1 (d0 : Dev nD) (c0_i32_13 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v20 : BitVec 32 := Scalar.addi v8 c0_i32_13
  let v21 : Index := Scalar.indexCast v20
  let c0 : Index := 0#32
  ![v21.toNat, 0]
def k0_off2 (d0 : Dev nD) (c0_i32_13 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v20 : BitVec 32 := Scalar.addi v8 c0_i32_13
  let v27 : Index := Scalar.indexCast v20
  let c0_16 : Index := 0#32
  ![v27.toNat, 0]
def k0_off3 (d0 : Dev nD) (c0_i32_18 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v29 : BitVec 32 := Scalar.addi v8 c0_i32_18
  let c0_i32_26 : BitVec 32 := 0#32
  ![v29.toNat, 0]
def k0_dev3 (d0 : Dev nD) : Nat :=
  let c0_i32_22 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_21 : BitVec 32 := 2#32
  let v30 : BitVec 32 := Scalar.muli v6 c2_i32_21
  let v31 : BitVec 32 := Scalar.addi c0_i32_22 v30
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v32 : BitVec 32 := Scalar.muli v5 c1_i32_23
  let v33 : BitVec 32 := Scalar.addi v31 v32
  v33.toNat
def k0_dev4 (d0 : Dev nD) : Nat :=
  let c0_i32_30 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_29 : BitVec 32 := 2#32
  let v41 : BitVec 32 := Scalar.muli v6 c2_i32_29
  let v42 : BitVec 32 := Scalar.addi c0_i32_30 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_31 : BitVec 32 := 1#32
  let v43 : BitVec 32 := Scalar.muli v5 c1_i32_31
  let v44 : BitVec 32 := Scalar.addi v42 v43
  v44.toNat
def k0_dev5 (d0 : Dev nD) : Nat :=
  let c0_i32_38 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_37 : BitVec 32 := 2#32
  let v52 : BitVec 32 := Scalar.muli v6 c2_i32_37
  let v53 : BitVec 32 := Scalar.addi c0_i32_38 v52
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_39 : BitVec 32 := 1#32
  let v54 : BitVec 32 := Scalar.muli v5 c1_i32_39
  let v55 : BitVec 32 := Scalar.addi v53 v54
  v55.toNat
def k0_dev6 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v63 : BitVec 32 := Scalar.muli v6 c2_i32_44
  let v64 : BitVec 32 := Scalar.addi c0_i32_45 v63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v65 : BitVec 32 := Scalar.muli v5 c1_i32_46
  let v66 : BitVec 32 := Scalar.addi v64 v65
  v66.toNat
def k0_dev7 (d0 : Dev nD) : Nat :=
  let c0_i32_52 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_51 : BitVec 32 := 2#32
  let v74 : BitVec 32 := Scalar.muli v6 c2_i32_51
  let v75 : BitVec 32 := Scalar.addi c0_i32_52 v74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v76 : BitVec 32 := Scalar.muli v5 c1_i32_53
  let v77 : BitVec 32 := Scalar.addi v75 v76
  v77.toNat
def k0_dev8 (d0 : Dev nD) : Nat :=
  let c0_i32_59 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_58 : BitVec 32 := 2#32
  let v85 : BitVec 32 := Scalar.muli v6 c2_i32_58
  let v86 : BitVec 32 := Scalar.addi c0_i32_59 v85
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v87 : BitVec 32 := Scalar.muli v5 c1_i32_60
  let v88 : BitVec 32 := Scalar.addi v86 v87
  v88.toNat
def k0_dev9 (d0 : Dev nD) : Nat :=
  let c0_i32_66 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_65 : BitVec 32 := 2#32
  let v96 : BitVec 32 := Scalar.muli v6 c2_i32_65
  let v97 : BitVec 32 := Scalar.addi c0_i32_66 v96
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v98 : BitVec 32 := Scalar.muli v5 c1_i32_67
  let v99 : BitVec 32 := Scalar.addi v97 v98
  v99.toNat
def k0_dev10 (d0 : Dev nD) : Nat :=
  let c0_i32_73 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_72 : BitVec 32 := 2#32
  let v107 : BitVec 32 := Scalar.muli v6 c2_i32_72
  let v108 : BitVec 32 := Scalar.addi c0_i32_73 v107
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_74 : BitVec 32 := 1#32
  let v109 : BitVec 32 := Scalar.muli v5 c1_i32_74
  let v110 : BitVec 32 := Scalar.addi v108 v109
  v110.toNat
def k0_dev11 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v127 : BitVec 32 := Scalar.muli v6 c2_i32_85
  let v128 : BitVec 32 := Scalar.addi c0_i32_86 v127
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v129 : BitVec 32 := Scalar.muli v5 c1_i32_87
  let v130 : BitVec 32 := Scalar.addi v128 v129
  v130.toNat
def k0_dev12 (d0 : Dev nD) : Nat :=
  let c0_i32_93 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_92 : BitVec 32 := 2#32
  let v138 : BitVec 32 := Scalar.muli v6 c2_i32_92
  let v139 : BitVec 32 := Scalar.addi c0_i32_93 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_94 : BitVec 32 := 1#32
  let v140 : BitVec 32 := Scalar.muli v5 c1_i32_94
  let v141 : BitVec 32 := Scalar.addi v139 v140
  v141.toNat
def k0_dev13 (d0 : Dev nD) : Nat :=
  let c0_i32_100 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_99 : BitVec 32 := 2#32
  let v149 : BitVec 32 := Scalar.muli v6 c2_i32_99
  let v150 : BitVec 32 := Scalar.addi c0_i32_100 v149
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v151 : BitVec 32 := Scalar.muli v5 c1_i32_101
  let v152 : BitVec 32 := Scalar.addi v150 v151
  v152.toNat
def k0_dev14 (d0 : Dev nD) : Nat :=
  let c0_i32_107 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_106 : BitVec 32 := 2#32
  let v160 : BitVec 32 := Scalar.muli v6 c2_i32_106
  let v161 : BitVec 32 := Scalar.addi c0_i32_107 v160
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_108 : BitVec 32 := 1#32
  let v162 : BitVec 32 := Scalar.muli v5 c1_i32_108
  let v163 : BitVec 32 := Scalar.addi v161 v162
  v163.toNat
def k0_dev15 (d0 : Dev nD) : Nat :=
  let c0_i32_114 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_113 : BitVec 32 := 2#32
  let v171 : BitVec 32 := Scalar.muli v6 c2_i32_113
  let v172 : BitVec 32 := Scalar.addi c0_i32_114 v171
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_115 : BitVec 32 := 1#32
  let v173 : BitVec 32 := Scalar.muli v5 c1_i32_115
  let v174 : BitVec 32 := Scalar.addi v172 v173
  v174.toNat
def k0_dev16 (d0 : Dev nD) : Nat :=
  let c0_i32_121 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_120 : BitVec 32 := 2#32
  let v182 : BitVec 32 := Scalar.muli v6 c2_i32_120
  let v183 : BitVec 32 := Scalar.addi c0_i32_121 v182
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_122 : BitVec 32 := 1#32
  let v184 : BitVec 32 := Scalar.muli v5 c1_i32_122
  let v185 : BitVec 32 := Scalar.addi v183 v184
  v185.toNat
def k0_dev17 (d0 : Dev nD) : Nat :=
  let c0_i32_128 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_127 : BitVec 32 := 2#32
  let v193 : BitVec 32 := Scalar.muli v6 c2_i32_127
  let v194 : BitVec 32 := Scalar.addi c0_i32_128 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_129 : BitVec 32 := 1#32
  let v195 : BitVec 32 := Scalar.muli v5 c1_i32_129
  let v196 : BitVec 32 := Scalar.addi v194 v195
  v196.toNat
def k0_dev18 (d0 : Dev nD) : Nat :=
  let c0_i32_135 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_134 : BitVec 32 := 2#32
  let v204 : BitVec 32 := Scalar.muli v6 c2_i32_134
  let v205 : BitVec 32 := Scalar.addi c0_i32_135 v204
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_136 : BitVec 32 := 1#32
  let v206 : BitVec 32 := Scalar.muli v5 c1_i32_136
  let v207 : BitVec 32 := Scalar.addi v205 v206
  v207.toNat
def k0_dev19 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v224 : BitVec 32 := Scalar.muli v6 c2_i32_148
  let v225 : BitVec 32 := Scalar.addi c0_i32_149 v224
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v226 : BitVec 32 := Scalar.muli v5 c1_i32_150
  let v227 : BitVec 32 := Scalar.addi v225 v226
  v227.toNat
def k0_dev20 (d0 : Dev nD) : Nat :=
  let c0_i32_156 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_155 : BitVec 32 := 2#32
  let v235 : BitVec 32 := Scalar.muli v6 c2_i32_155
  let v236 : BitVec 32 := Scalar.addi c0_i32_156 v235
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_157 : BitVec 32 := 1#32
  let v237 : BitVec 32 := Scalar.muli v5 c1_i32_157
  let v238 : BitVec 32 := Scalar.addi v236 v237
  v238.toNat
def k0_dev21 (d0 : Dev nD) : Nat :=
  let c0_i32_163 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_162 : BitVec 32 := 2#32
  let v246 : BitVec 32 := Scalar.muli v6 c2_i32_162
  let v247 : BitVec 32 := Scalar.addi c0_i32_163 v246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_164 : BitVec 32 := 1#32
  let v248 : BitVec 32 := Scalar.muli v5 c1_i32_164
  let v249 : BitVec 32 := Scalar.addi v247 v248
  v249.toNat
def k0_dev22 (d0 : Dev nD) : Nat :=
  let c0_i32_170 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_169 : BitVec 32 := 2#32
  let v257 : BitVec 32 := Scalar.muli v6 c2_i32_169
  let v258 : BitVec 32 := Scalar.addi c0_i32_170 v257
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_171 : BitVec 32 := 1#32
  let v259 : BitVec 32 := Scalar.muli v5 c1_i32_171
  let v260 : BitVec 32 := Scalar.addi v258 v259
  v260.toNat
def k0_dev23 (d0 : Dev nD) : Nat :=
  let c0_i32_177 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_176 : BitVec 32 := 2#32
  let v268 : BitVec 32 := Scalar.muli v6 c2_i32_176
  let v269 : BitVec 32 := Scalar.addi c0_i32_177 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_178 : BitVec 32 := 1#32
  let v270 : BitVec 32 := Scalar.muli v5 c1_i32_178
  let v271 : BitVec 32 := Scalar.addi v269 v270
  v271.toNat
def k0_dev24 (d0 : Dev nD) : Nat :=
  let c0_i32_184 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_183 : BitVec 32 := 2#32
  let v279 : BitVec 32 := Scalar.muli v6 c2_i32_183
  let v280 : BitVec 32 := Scalar.addi c0_i32_184 v279
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_185 : BitVec 32 := 1#32
  let v281 : BitVec 32 := Scalar.muli v5 c1_i32_185
  let v282 : BitVec 32 := Scalar.addi v280 v281
  v282.toNat
def k0_dev25 (d0 : Dev nD) : Nat :=
  let c0_i32_191 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_190 : BitVec 32 := 2#32
  let v290 : BitVec 32 := Scalar.muli v6 c2_i32_190
  let v291 : BitVec 32 := Scalar.addi c0_i32_191 v290
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_192 : BitVec 32 := 1#32
  let v292 : BitVec 32 := Scalar.muli v5 c1_i32_192
  let v293 : BitVec 32 := Scalar.addi v291 v292
  v293.toNat
def k0_dev26 (d0 : Dev nD) : Nat :=
  let c0_i32_198 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_197 : BitVec 32 := 2#32
  let v301 : BitVec 32 := Scalar.muli v6 c2_i32_197
  let v302 : BitVec 32 := Scalar.addi c0_i32_198 v301
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_199 : BitVec 32 := 1#32
  let v303 : BitVec 32 := Scalar.muli v5 c1_i32_199
  let v304 : BitVec 32 := Scalar.addi v302 v303
  v304.toNat
def k0_dev27 (d0 : Dev nD) : Nat :=
  let c0_i32_211 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_210 : BitVec 32 := 2#32
  let v321 : BitVec 32 := Scalar.muli v6 c2_i32_210
  let v322 : BitVec 32 := Scalar.addi c0_i32_211 v321
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_212 : BitVec 32 := 1#32
  let v323 : BitVec 32 := Scalar.muli v5 c1_i32_212
  let v324 : BitVec 32 := Scalar.addi v322 v323
  v324.toNat
def k0_dev28 (d0 : Dev nD) : Nat :=
  let c0_i32_218 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_217 : BitVec 32 := 2#32
  let v332 : BitVec 32 := Scalar.muli v6 c2_i32_217
  let v333 : BitVec 32 := Scalar.addi c0_i32_218 v332
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_219 : BitVec 32 := 1#32
  let v334 : BitVec 32 := Scalar.muli v5 c1_i32_219
  let v335 : BitVec 32 := Scalar.addi v333 v334
  v335.toNat
def k0_dev29 (d0 : Dev nD) : Nat :=
  let c0_i32_225 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_224 : BitVec 32 := 2#32
  let v343 : BitVec 32 := Scalar.muli v6 c2_i32_224
  let v344 : BitVec 32 := Scalar.addi c0_i32_225 v343
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_226 : BitVec 32 := 1#32
  let v345 : BitVec 32 := Scalar.muli v5 c1_i32_226
  let v346 : BitVec 32 := Scalar.addi v344 v345
  v346.toNat
def k0_dev30 (d0 : Dev nD) : Nat :=
  let c0_i32_232 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_231 : BitVec 32 := 2#32
  let v354 : BitVec 32 := Scalar.muli v6 c2_i32_231
  let v355 : BitVec 32 := Scalar.addi c0_i32_232 v354
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_233 : BitVec 32 := 1#32
  let v356 : BitVec 32 := Scalar.muli v5 c1_i32_233
  let v357 : BitVec 32 := Scalar.addi v355 v356
  v357.toNat
def k0_dev31 (d0 : Dev nD) : Nat :=
  let c0_i32_239 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_238 : BitVec 32 := 2#32
  let v365 : BitVec 32 := Scalar.muli v6 c2_i32_238
  let v366 : BitVec 32 := Scalar.addi c0_i32_239 v365
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_240 : BitVec 32 := 1#32
  let v367 : BitVec 32 := Scalar.muli v5 c1_i32_240
  let v368 : BitVec 32 := Scalar.addi v366 v367
  v368.toNat
def k0_dev32 (d0 : Dev nD) : Nat :=
  let c0_i32_246 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_245 : BitVec 32 := 2#32
  let v376 : BitVec 32 := Scalar.muli v6 c2_i32_245
  let v377 : BitVec 32 := Scalar.addi c0_i32_246 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_247 : BitVec 32 := 1#32
  let v378 : BitVec 32 := Scalar.muli v5 c1_i32_247
  let v379 : BitVec 32 := Scalar.addi v377 v378
  v379.toNat
def k0_dev33 (d0 : Dev nD) : Nat :=
  let c0_i32_253 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_252 : BitVec 32 := 2#32
  let v387 : BitVec 32 := Scalar.muli v6 c2_i32_252
  let v388 : BitVec 32 := Scalar.addi c0_i32_253 v387
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_254 : BitVec 32 := 1#32
  let v389 : BitVec 32 := Scalar.muli v5 c1_i32_254
  let v390 : BitVec 32 := Scalar.addi v388 v389
  v390.toNat
def k0_dev34 (d0 : Dev nD) : Nat :=
  let c0_i32_260 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_259 : BitVec 32 := 2#32
  let v398 : BitVec 32 := Scalar.muli v6 c2_i32_259
  let v399 : BitVec 32 := Scalar.addi c0_i32_260 v398
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_261 : BitVec 32 := 1#32
  let v400 : BitVec 32 := Scalar.muli v5 c1_i32_261
  let v401 : BitVec 32 := Scalar.addi v399 v400
  v401.toNat
def k0_off4 (d0 : Dev nD) (c0_i32_280 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v421 : BitVec 32 := Scalar.addi v8 c0_i32_280
  let v422 : Index := Scalar.indexCast v421
  let c0_281 : Index := 0#32
  ![v422.toNat, 0]
def k0_dev35 (d0 : Dev nD) : Nat :=
  let c0_i32_291 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_290 : BitVec 32 := 2#32
  let v432 : BitVec 32 := Scalar.muli v2 c2_i32_290
  let v433 : BitVec 32 := Scalar.addi c0_i32_291 v432
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_292 : BitVec 32 := 1#32
  let v434 : BitVec 32 := Scalar.muli v7 c1_i32_292
  let v435 : BitVec 32 := Scalar.addi v433 v434
  v435.toNat
def k0_dev36 (d0 : Dev nD) : Nat :=
  let c0_i32_320 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_319 : BitVec 32 := 2#32
  let v466 : BitVec 32 := Scalar.muli v2 c2_i32_319
  let v467 : BitVec 32 := Scalar.addi c0_i32_320 v466
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_321 : BitVec 32 := 1#32
  let v468 : BitVec 32 := Scalar.muli v7 c1_i32_321
  let v469 : BitVec 32 := Scalar.addi v467 v468
  v469.toNat
def k0_dev37 (d0 : Dev nD) : Nat :=
  let c0_i32_349 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_348 : BitVec 32 := 2#32
  let v500 : BitVec 32 := Scalar.muli v2 c2_i32_348
  let v501 : BitVec 32 := Scalar.addi c0_i32_349 v500
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_350 : BitVec 32 := 1#32
  let v502 : BitVec 32 := Scalar.muli v7 c1_i32_350
  let v503 : BitVec 32 := Scalar.addi v501 v502
  v503.toNat
def k0_dev38 (d0 : Dev nD) : Nat :=
  let c0_i32_378 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_377 : BitVec 32 := 2#32
  let v534 : BitVec 32 := Scalar.muli v2 c2_i32_377
  let v535 : BitVec 32 := Scalar.addi c0_i32_378 v534
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_379 : BitVec 32 := 1#32
  let v536 : BitVec 32 := Scalar.muli v7 c1_i32_379
  let v537 : BitVec 32 := Scalar.addi v535 v536
  v537.toNat
def k0_dev39 (d0 : Dev nD) : Nat :=
  let c0_i32_407 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_406 : BitVec 32 := 2#32
  let v568 : BitVec 32 := Scalar.muli v2 c2_i32_406
  let v569 : BitVec 32 := Scalar.addi c0_i32_407 v568
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_408 : BitVec 32 := 1#32
  let v570 : BitVec 32 := Scalar.muli v7 c1_i32_408
  let v571 : BitVec 32 := Scalar.addi v569 v570
  v571.toNat
def k0_dev40 (d0 : Dev nD) : Nat :=
  let c0_i32_436 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_435 : BitVec 32 := 2#32
  let v602 : BitVec 32 := Scalar.muli v2 c2_i32_435
  let v603 : BitVec 32 := Scalar.addi c0_i32_436 v602
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_437 : BitVec 32 := 1#32
  let v604 : BitVec 32 := Scalar.muli v7 c1_i32_437
  let v605 : BitVec 32 := Scalar.addi v603 v604
  v605.toNat
def k0_dev41 (d0 : Dev nD) : Nat :=
  let c0_i32_465 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_464 : BitVec 32 := 2#32
  let v636 : BitVec 32 := Scalar.muli v2 c2_i32_464
  let v637 : BitVec 32 := Scalar.addi c0_i32_465 v636
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_466 : BitVec 32 := 1#32
  let v638 : BitVec 32 := Scalar.muli v7 c1_i32_466
  let v639 : BitVec 32 := Scalar.addi v637 v638
  v639.toNat
def k0_dev42 (d0 : Dev nD) : Nat :=
  let c0_i32_494 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_493 : BitVec 32 := 2#32
  let v670 : BitVec 32 := Scalar.muli v2 c2_i32_493
  let v671 : BitVec 32 := Scalar.addi c0_i32_494 v670
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_495 : BitVec 32 := 1#32
  let v672 : BitVec 32 := Scalar.muli v7 c1_i32_495
  let v673 : BitVec 32 := Scalar.addi v671 v672
  v673.toNat
def k0_dev43 (d0 : Dev nD) : Nat :=
  let c0_i32_523 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_522 : BitVec 32 := 2#32
  let v704 : BitVec 32 := Scalar.muli v2 c2_i32_522
  let v705 : BitVec 32 := Scalar.addi c0_i32_523 v704
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_524 : BitVec 32 := 1#32
  let v706 : BitVec 32 := Scalar.muli v7 c1_i32_524
  let v707 : BitVec 32 := Scalar.addi v705 v706
  v707.toNat
def k0_dev44 (d0 : Dev nD) : Nat :=
  let c0_i32_552 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_551 : BitVec 32 := 2#32
  let v738 : BitVec 32 := Scalar.muli v2 c2_i32_551
  let v739 : BitVec 32 := Scalar.addi c0_i32_552 v738
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_553 : BitVec 32 := 1#32
  let v740 : BitVec 32 := Scalar.muli v7 c1_i32_553
  let v741 : BitVec 32 := Scalar.addi v739 v740
  v741.toNat
def k0_dev45 (d0 : Dev nD) : Nat :=
  let c0_i32_581 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_580 : BitVec 32 := 2#32
  let v772 : BitVec 32 := Scalar.muli v2 c2_i32_580
  let v773 : BitVec 32 := Scalar.addi c0_i32_581 v772
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_582 : BitVec 32 := 1#32
  let v774 : BitVec 32 := Scalar.muli v7 c1_i32_582
  let v775 : BitVec 32 := Scalar.addi v773 v774
  v775.toNat
def k0_dev46 (d0 : Dev nD) : Nat :=
  let c0_i32_610 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_609 : BitVec 32 := 2#32
  let v806 : BitVec 32 := Scalar.muli v2 c2_i32_609
  let v807 : BitVec 32 := Scalar.addi c0_i32_610 v806
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_611 : BitVec 32 := 1#32
  let v808 : BitVec 32 := Scalar.muli v7 c1_i32_611
  let v809 : BitVec 32 := Scalar.addi v807 v808
  v809.toNat
def k0_dev47 (d0 : Dev nD) : Nat :=
  let c0_i32_639 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_638 : BitVec 32 := 2#32
  let v840 : BitVec 32 := Scalar.muli v2 c2_i32_638
  let v841 : BitVec 32 := Scalar.addi c0_i32_639 v840
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_640 : BitVec 32 := 1#32
  let v842 : BitVec 32 := Scalar.muli v7 c1_i32_640
  let v843 : BitVec 32 := Scalar.addi v841 v842
  v843.toNat
def k0_dev48 (d0 : Dev nD) : Nat :=
  let c0_i32_668 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_667 : BitVec 32 := 2#32
  let v874 : BitVec 32 := Scalar.muli v2 c2_i32_667
  let v875 : BitVec 32 := Scalar.addi c0_i32_668 v874
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_669 : BitVec 32 := 1#32
  let v876 : BitVec 32 := Scalar.muli v7 c1_i32_669
  let v877 : BitVec 32 := Scalar.addi v875 v876
  v877.toNat
def k0_dev49 (d0 : Dev nD) : Nat :=
  let c0_i32_697 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_696 : BitVec 32 := 2#32
  let v908 : BitVec 32 := Scalar.muli v2 c2_i32_696
  let v909 : BitVec 32 := Scalar.addi c0_i32_697 v908
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_698 : BitVec 32 := 1#32
  let v910 : BitVec 32 := Scalar.muli v7 c1_i32_698
  let v911 : BitVec 32 := Scalar.addi v909 v910
  v911.toNat
def k0_dev50 (d0 : Dev nD) : Nat :=
  let c0_i32_726 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_725 : BitVec 32 := 2#32
  let v942 : BitVec 32 := Scalar.muli v2 c2_i32_725
  let v943 : BitVec 32 := Scalar.addi c0_i32_726 v942
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_727 : BitVec 32 := 1#32
  let v944 : BitVec 32 := Scalar.muli v7 c1_i32_727
  let v945 : BitVec 32 := Scalar.addi v943 v944
  v945.toNat
def k0_dev51 (d0 : Dev nD) : Nat :=
  let c0_i32_755 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_754 : BitVec 32 := 2#32
  let v976 : BitVec 32 := Scalar.muli v2 c2_i32_754
  let v977 : BitVec 32 := Scalar.addi c0_i32_755 v976
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_756 : BitVec 32 := 1#32
  let v978 : BitVec 32 := Scalar.muli v7 c1_i32_756
  let v979 : BitVec 32 := Scalar.addi v977 v978
  v979.toNat
def k0_dev52 (d0 : Dev nD) : Nat :=
  let c0_i32_784 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_783 : BitVec 32 := 2#32
  let v1010 : BitVec 32 := Scalar.muli v2 c2_i32_783
  let v1011 : BitVec 32 := Scalar.addi c0_i32_784 v1010
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_785 : BitVec 32 := 1#32
  let v1012 : BitVec 32 := Scalar.muli v7 c1_i32_785
  let v1013 : BitVec 32 := Scalar.addi v1011 v1012
  v1013.toNat
def k0_dev53 (d0 : Dev nD) : Nat :=
  let c0_i32_813 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_812 : BitVec 32 := 2#32
  let v1044 : BitVec 32 := Scalar.muli v2 c2_i32_812
  let v1045 : BitVec 32 := Scalar.addi c0_i32_813 v1044
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_814 : BitVec 32 := 1#32
  let v1046 : BitVec 32 := Scalar.muli v7 c1_i32_814
  let v1047 : BitVec 32 := Scalar.addi v1045 v1046
  v1047.toNat
def k0_dev54 (d0 : Dev nD) : Nat :=
  let c0_i32_842 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_841 : BitVec 32 := 2#32
  let v1078 : BitVec 32 := Scalar.muli v2 c2_i32_841
  let v1079 : BitVec 32 := Scalar.addi c0_i32_842 v1078
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_843 : BitVec 32 := 1#32
  let v1080 : BitVec 32 := Scalar.muli v7 c1_i32_843
  let v1081 : BitVec 32 := Scalar.addi v1079 v1080
  v1081.toNat
def k0_dev55 (d0 : Dev nD) : Nat :=
  let c0_i32_871 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_870 : BitVec 32 := 2#32
  let v1112 : BitVec 32 := Scalar.muli v2 c2_i32_870
  let v1113 : BitVec 32 := Scalar.addi c0_i32_871 v1112
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_872 : BitVec 32 := 1#32
  let v1114 : BitVec 32 := Scalar.muli v7 c1_i32_872
  let v1115 : BitVec 32 := Scalar.addi v1113 v1114
  v1115.toNat
def k0_dev56 (d0 : Dev nD) : Nat :=
  let c0_i32_900 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_899 : BitVec 32 := 2#32
  let v1146 : BitVec 32 := Scalar.muli v2 c2_i32_899
  let v1147 : BitVec 32 := Scalar.addi c0_i32_900 v1146
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_901 : BitVec 32 := 1#32
  let v1148 : BitVec 32 := Scalar.muli v7 c1_i32_901
  let v1149 : BitVec 32 := Scalar.addi v1147 v1148
  v1149.toNat
def k0_dev57 (d0 : Dev nD) : Nat :=
  let c0_i32_929 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_928 : BitVec 32 := 2#32
  let v1180 : BitVec 32 := Scalar.muli v2 c2_i32_928
  let v1181 : BitVec 32 := Scalar.addi c0_i32_929 v1180
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_930 : BitVec 32 := 1#32
  let v1182 : BitVec 32 := Scalar.muli v7 c1_i32_930
  let v1183 : BitVec 32 := Scalar.addi v1181 v1182
  v1183.toNat
def k0_dev58 (d0 : Dev nD) : Nat :=
  let c0_i32_958 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_957 : BitVec 32 := 2#32
  let v1214 : BitVec 32 := Scalar.muli v2 c2_i32_957
  let v1215 : BitVec 32 := Scalar.addi c0_i32_958 v1214
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_959 : BitVec 32 := 1#32
  let v1216 : BitVec 32 := Scalar.muli v7 c1_i32_959
  let v1217 : BitVec 32 := Scalar.addi v1215 v1216
  v1217.toNat
def k0_dev59 (d0 : Dev nD) : Nat :=
  let c0_i32_987 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_986 : BitVec 32 := 2#32
  let v1248 : BitVec 32 := Scalar.muli v2 c2_i32_986
  let v1249 : BitVec 32 := Scalar.addi c0_i32_987 v1248
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_988 : BitVec 32 := 1#32
  let v1250 : BitVec 32 := Scalar.muli v7 c1_i32_988
  let v1251 : BitVec 32 := Scalar.addi v1249 v1250
  v1251.toNat
def k0_dev60 (d0 : Dev nD) : Nat :=
  let c0_i32_1016 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1015 : BitVec 32 := 2#32
  let v1282 : BitVec 32 := Scalar.muli v2 c2_i32_1015
  let v1283 : BitVec 32 := Scalar.addi c0_i32_1016 v1282
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1017 : BitVec 32 := 1#32
  let v1284 : BitVec 32 := Scalar.muli v7 c1_i32_1017
  let v1285 : BitVec 32 := Scalar.addi v1283 v1284
  v1285.toNat
def k0_dev61 (d0 : Dev nD) : Nat :=
  let c0_i32_1045 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1044 : BitVec 32 := 2#32
  let v1316 : BitVec 32 := Scalar.muli v2 c2_i32_1044
  let v1317 : BitVec 32 := Scalar.addi c0_i32_1045 v1316
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1046 : BitVec 32 := 1#32
  let v1318 : BitVec 32 := Scalar.muli v7 c1_i32_1046
  let v1319 : BitVec 32 := Scalar.addi v1317 v1318
  v1319.toNat
def k0_dev62 (d0 : Dev nD) : Nat :=
  let c0_i32_1074 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1073 : BitVec 32 := 2#32
  let v1350 : BitVec 32 := Scalar.muli v2 c2_i32_1073
  let v1351 : BitVec 32 := Scalar.addi c0_i32_1074 v1350
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1075 : BitVec 32 := 1#32
  let v1352 : BitVec 32 := Scalar.muli v7 c1_i32_1075
  let v1353 : BitVec 32 := Scalar.addi v1351 v1352
  v1353.toNat
def k0_dev63 (d0 : Dev nD) : Nat :=
  let c0_i32_1103 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1102 : BitVec 32 := 2#32
  let v1384 : BitVec 32 := Scalar.muli v2 c2_i32_1102
  let v1385 : BitVec 32 := Scalar.addi c0_i32_1103 v1384
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1104 : BitVec 32 := 1#32
  let v1386 : BitVec 32 := Scalar.muli v7 c1_i32_1104
  let v1387 : BitVec 32 := Scalar.addi v1385 v1386
  v1387.toNat
def k0_dev64 (d0 : Dev nD) : Nat :=
  let c0_i32_1132 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1131 : BitVec 32 := 2#32
  let v1418 : BitVec 32 := Scalar.muli v2 c2_i32_1131
  let v1419 : BitVec 32 := Scalar.addi c0_i32_1132 v1418
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1133 : BitVec 32 := 1#32
  let v1420 : BitVec 32 := Scalar.muli v7 c1_i32_1133
  let v1421 : BitVec 32 := Scalar.addi v1419 v1420
  v1421.toNat
def k0_dev65 (d0 : Dev nD) : Nat :=
  let c0_i32_1161 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1160 : BitVec 32 := 2#32
  let v1452 : BitVec 32 := Scalar.muli v2 c2_i32_1160
  let v1453 : BitVec 32 := Scalar.addi c0_i32_1161 v1452
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1162 : BitVec 32 := 1#32
  let v1454 : BitVec 32 := Scalar.muli v7 c1_i32_1162
  let v1455 : BitVec 32 := Scalar.addi v1453 v1454
  v1455.toNat
def k0_dev66 (d0 : Dev nD) : Nat :=
  let c0_i32_1190 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1189 : BitVec 32 := 2#32
  let v1486 : BitVec 32 := Scalar.muli v2 c2_i32_1189
  let v1487 : BitVec 32 := Scalar.addi c0_i32_1190 v1486
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1191 : BitVec 32 := 1#32
  let v1488 : BitVec 32 := Scalar.muli v7 c1_i32_1191
  let v1489 : BitVec 32 := Scalar.addi v1487 v1488
  v1489.toNat
def k0_off5 (d0 : Dev nD) (c0_i32_1202 : BitVec 32) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_4 v5
  let c512_i32_5 : BitVec 32 := 512#32
  let v10 : BitVec 32 := Scalar.muli v9 c512_i32_5
  let v1503 : BitVec 32 := Scalar.addi v10 c0_i32_1202
  let c0_i32_1208 : BitVec 32 := 0#32
  ![v1503.toNat, 0]
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Prog.lean ====
/- The kernel's body as one text over a symbolic chunk: the sequence of memory operations the
   printed function runs, written once per kind of step and repeated along a list of chunks. -/
module

public import proofs.«01_k».proof.Proof.Gen.KernelIdeal.Skeleton

@[expose] public section

noncomputable section

namespace Cert.KernelIdeal.Steps

open Idealize.ShloMosaic Idealize.SL.Sem Cert.KernelIdeal Cert.KernelIdeal.Gen

variable {F : FTy → Type} [FloatOps F]

/-- A program of one of the kernel's threads that returns nothing. -/
abbrev Pgm (F : FTy → Type) : Type 1 := Prog (TpuEff nD τ sig (Elt F) Λ₀ .tc) PUnit

/-- A slot of a table of 32 semaphores lies in the table. -/
theorem slot_inb (j : Fin 32) : ∀ a, (![j.val] : Fin 1 → Nat) a + S1.size a ≤ S32.size a := by
  revert j; decide

/-- A chunk of 16 rows lies in the buffer of 512 rows. -/
theorem chunk_inb (j : Fin 32) :
    ∀ a, (![16 * j.val, 0] : Fin 2 → Nat) a + S16x1024.size a ≤ S512x1024.size a := by
  revert j; decide

/-- The neighbour along the mesh's first axis. -/
def xn (d : Dev nD) : Dev nD := ⟨k0_dev1 d, k0_dev1_lt d⟩

/-- The neighbour along the mesh's second axis. -/
def yn (d : Dev nD) : Dev nD := ⟨k0_dev2 d, k0_dev2_lt d⟩

/-- The device a chunk of partial products goes to. -/
def xTo (d : Dev nD) : Dev nD := ⟨k0_dev3 d, k0_dev3_lt d⟩

/-- The device a chunk of sums goes to. -/
def yTo (d : Dev nD) : Dev nD := ⟨k0_dev35 d, k0_dev35_lt d⟩

/-- Semaphore `j` of a table of 32. -/
def slot (tab : DmaSems sig S32) (j : Fin 32) : DmaSem sig :=
  ((tab.slice (Rect.unit (s := S32) ![j.val] S1.size (slot_inb j))).squeeze S_ squeezes_S1_S_).sem

/-- The rectangle of chunk `j` of the half of the output that device `d` computes, as a transfer
    names it. -/
abbrev rOwn (d : Dev nD) (j : Fin 32) : Rect S1024x1024 :=
  Rect.unit (s := S1024x1024) (k0_off3 d (BitVec.ofNat 32 (16 * j.val))) S16x1024.size (k0_off3_inb d j)

/-- The same rectangle, as a load or a store names it. -/
abbrev rAcc (d : Dev nD) (j : Fin 32) : Rect S1024x1024 :=
  Rect.unit (s := S1024x1024) (k0_off4 d (BitVec.ofNat 32 (16 * j.val))) S16x1024.size (k0_off4_inb d j)

/-- The rectangle of chunk `j` of the other half of the output. -/
abbrev rOther (d : Dev nD) (j : Fin 32) : Rect S1024x1024 :=
  Rect.unit (s := S1024x1024) (k0_off5 d (BitVec.ofNat 32 (16 * j.val))) S16x1024.size (k0_off5_inb d j)

/-- The rectangle of chunk `j` of the receive buffer. -/
abbrev rRecv (j : Fin 32) : Rect S512x1024 :=
  Rect.unit (s := S512x1024) ![16 * j.val, 0] S16x1024.size (chunk_inb j)

/-- The rectangle of block `b` of 128 rows of the left operand. -/
abbrev rLhs (d : Dev nD) (b : Fin 4) : Rect S1024x512 :=
  Rect.unit (s := S1024x512) (k0_off1 d (BitVec.ofNat 32 (128 * b.val))) S128x512.size (k0_off1_inb d b)

/-- The rectangle of block `b` of 128 rows of the output. -/
abbrev rBlk (d : Dev nD) (b : Fin 4) : Rect S1024x1024 :=
  Rect.unit (s := S1024x1024) (k0_off2 d (BitVec.ofNat 32 (128 * b.val))) S128x1024.size (k0_off2_inb d b)

/-- The rectangle of the whole right operand. -/
abbrev rRhs : Rect S512x1024 :=
  Rect.unit (s := S512x1024) ![0, 0] S512x1024.size inb_S512x1024_S512x1024_0_0

/-- The regular semaphore the devices meet on. -/
def barSem : Sem sig := (SemArray.scalar (sig.barrier 0 rfl) : Sems sig S_).sem

section

variable (arg0 : Memref sig .tc .vmem S1024x512 .f32) (arg1 : Memref sig .tc .vmem S512x1024 .f32)
  (arg2 : Memref sig .tc .vmem S1024x1024 .f32) (arg3 : Memref sig .tc .vmem S512x1024 .f32)
  (arg4 arg5 arg6 arg7 : DmaSems sig S32)

/-- Block `b` of the partial product: both operands are loaded, multiplied and stored. -/
def dotStep (d : Dev nD) (b : Fin 4) (k : Pgm F) : Pgm F :=
  .op (.load arg0 (rLhs d b).toLoadRect (View.loadsAt_vmem h_S128x512)) fun v =>
  .op (.load arg1 rRhs.toLoadRect (View.loadsAt_vmem h_S512x1024)) fun w =>
  .op (.load arg2 (rBlk d b).toLoadRect (View.loadsAt_vmem h_S128x1024)) fun _ =>
  .op (.store arg2 (rBlk d b) (k0_pay1 v w) Finset.univ (View.stores_vmem_bits_univ h_S128x1024 rfl) (.inl rfl))
    fun _ => k

/-- The start of the transfer of chunk `j` of the partial product. -/
def xStep (d : Dev nD) (j : Fin 32) (k : Pgm F) : Pgm F :=
  .op (.enqueueDma (arg2.slice (rOwn d j) (fun _ => rfl))
      (.remote (Dev.tc (xTo d)) (arg3.slice (rRecv j) (fun _ => rfl)) (.dma (slot arg4 j)))
      (.dma (slot arg5 j)) (View.wordExact_bits rfl) (View.wordExact_bits rfl) ⟨⟨rfl, Or.inl rfl⟩, trivial⟩)
    fun _ => k

/-- The sum of chunk `j`: both transfers of it are waited for, the chunk received is added and the
    sum is sent on. -/
def sumStep (d : Dev nD) (j : Fin 32) (k : Pgm F) : Pgm F :=
  .op (.waitDma2 (slot arg4 j) (arg3.slice (rRecv j) (fun _ => rfl)) (arg2.slice (rOwn d j) (fun _ => rfl))
      (View.wordExact_bits rfl) (View.wordExact_bits rfl)) fun _ =>
  .op (.waitDma2 (slot arg5 j) (arg2.slice (rOwn d j) (fun _ => rfl)) (arg3.slice (rRecv j) (fun _ => rfl))
      (View.wordExact_bits rfl) (View.wordExact_bits rfl)) fun _ =>
  .op (.load arg2 (rAcc d j).toLoadRect (View.loadsAt_vmem h_S16x1024)) fun v =>
  .op (.load arg3 (rRecv j).toLoadRect (View.loadsAt_vmem h_S16x1024)) fun w =>
  .op (.load arg2 (rAcc d j).toLoadRect (View.loadsAt_vmem h_S16x1024)) fun _ =>
  .op (.store arg2 (rAcc d j) (k0_pay6 v w) Finset.univ (View.stores_vmem_bits_univ h_S16x1024 rfl) (.inl rfl)) fun _ =>
  .op (.enqueueDma (arg2.slice (rOwn d j) (fun _ => rfl))
      (.remote (Dev.tc (yTo d)) (arg2.slice (rOwn d j) (fun _ => rfl)) (.dma (slot arg6 j)))
      (.dma (slot arg7 j)) (View.wordExact_bits rfl) (View.wordExact_bits rfl) ⟨⟨rfl, Or.inl rfl⟩, trivial⟩)
    fun _ => k

/-- The waits for the two transfers of the sums of chunk `j`. -/
def endStep (d : Dev nD) (j : Fin 32) (k : Pgm F) : Pgm F :=
  .op (.waitDma2 (slot arg6 j) (arg2.slice (rOwn d j) (fun _ => rfl)) (arg2.slice (rOwn d j) (fun _ => rfl))
      (View.wordExact_bits rfl) (View.wordExact_bits rfl)) fun _ =>
  .op (.waitDma2 (slot arg7 j) (arg2.slice (rOwn d j) (fun _ => rfl)) (arg2.slice (rOther d j) (fun _ => rfl))
      (View.wordExact_bits rfl) (View.wordExact_bits rfl)) fun _ => k

/-- The steps of a list, one after the other. -/
def chain {ι : Type} (step : ι → Pgm F → Pgm F) (l : List ι) (k : Pgm F) : Pgm F := l.foldr step k

/-- The eight chunks of block `b`. -/
def chunksOf (b : Fin 4) : List (Fin 32) :=
  [⟨8 * b.val, by omega⟩, ⟨8 * b.val + 1, by omega⟩, ⟨8 * b.val + 2, by omega⟩, ⟨8 * b.val + 3, by omega⟩,
   ⟨8 * b.val + 4, by omega⟩, ⟨8 * b.val + 5, by omega⟩, ⟨8 * b.val + 6, by omega⟩, ⟨8 * b.val + 7, by omega⟩]

/-- All 32 chunks, in order. -/
def chunks : List (Fin 32) := chunksOf 0 ++ (chunksOf 1 ++ (chunksOf 2 ++ chunksOf 3))

/-- A block of the partial product and the start of its eight transfers. -/
def blockStep (d : Dev nD) (b : Fin 4) (k : Pgm F) : Pgm F :=
  dotStep arg0 arg1 arg2 d b (chain (xStep arg2 arg3 arg4 arg5 d) (chunksOf b) k)

/-- The kernel's body. -/
def body : Pgm F :=
  .op .deviceId fun d =>
  .op (.semSignal (xn d, .tc) barSem (1 : ℕ)) fun _ =>
  .op (.semSignal (yn d, .tc) barSem (1 : ℕ)) fun _ =>
  dotStep arg0 arg1 arg2 d 0 <|
  .op (.semWait barSem (2 : ℕ)) fun _ =>
  chain (xStep arg2 arg3 arg4 arg5 d) (chunksOf 0) <|
  blockStep arg0 arg1 arg2 arg3 arg4 arg5 d 1 <|
  blockStep arg0 arg1 arg2 arg3 arg4 arg5 d 2 <|
  blockStep arg0 arg1 arg2 arg3 arg4 arg5 d 3 <|
  chain (sumStep arg2 arg3 arg4 arg5 arg6 arg7 d) chunks <|
  chain (endStep arg2 arg6 arg7 d) chunks <|
  .ret ⟨⟩

set_option maxRecDepth 65536 in
/-- The printed function is the body above. -/
theorem cc0_body_eq (harg0 : arg0.IsWhole) (harg1 : arg1.IsWhole) (harg2 : arg2.IsWhole) (harg3 : arg3.IsWhole) :
    cc0_body (F := F) arg0 harg0 arg1 harg1 arg2 harg2 arg3 harg3 arg4 arg5 arg6 arg7
      = body arg0 arg1 arg2 arg3 arg4 arg5 arg6 arg7 := rfl

end

end Cert.KernelIdeal.Steps
-- ==== Proof.Data.lean ====
/- The buffers, cells and contents the kernel works with: which rows each step touches, which
   semaphore belongs to which transfer, and what every buffer holds at each stage. -/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.Pipeline.Value

@[expose] public section

noncomputable section

namespace Cert.KernelIdeal.Steps

open Cert.KernelIdeal Cert.KernelIdeal.Gen
open Idealize.ShloMosaic Idealize.ShloMosaic.TcCoe
open Idealize.ShloMosaic.ValueIdx (ix2)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

/-- A device's first coordinate flipped. -/
theorem xn_val (c : Dev nD) : (xn c).val = c.val % 2 + 2 - 2 * (c.val / 2) := k0_dev1_eq c
/-- A device's second coordinate flipped. -/
theorem yn_val (c : Dev nD) : (yn c).val = 2 * (c.val / 2) + 1 - c.val % 2 := k0_dev2_eq c
theorem xTo_eq (c : Dev nD) : xTo c = xn c := Fin.ext ((k0_dev3_eq c).trans (xn_val c).symm)
theorem yTo_eq (c : Dev nD) : yTo c = yn c := Fin.ext ((k0_dev35_eq c).trans (yn_val c).symm)
/-- Both neighbours' neighbours are the device itself. -/
theorem xn_xn (c : Dev nD) : xn (xn c) = c := by
  have := c.isLt; refine Fin.ext ?_; simp only [xn_val]; simp only [nD] at *; omega
theorem yn_yn (c : Dev nD) : yn (yn c) = c := by
  have := c.isLt; refine Fin.ext ?_; simp only [yn_val]; simp only [nD] at *; omega
/-- The neighbour along the first axis works on the same half of the rows, -/
theorem xn_mod (c : Dev nD) : (xn c).val % 2 = c.val % 2 := by
  have := c.isLt; rw [xn_val]; simp only [nD] at *; omega
/-- and the one along the second axis on the other half. -/
theorem yn_mod (c : Dev nD) : (yn c).val % 2 = 1 - c.val % 2 := by
  have := c.isLt; rw [yn_val]; simp only [nD] at *; omega

/-- The two exchanges of the mesh's devices. -/
def xSwap : Dev nD ≃ Dev nD := ⟨xn, xn, xn_xn, xn_xn⟩
def ySwap : Dev nD ≃ Dev nD := ⟨yn, yn, yn_yn, yn_yn⟩

/-! ## The memrefs -/

abbrev aM : Memref sig .tc .vmem S1024x512 .f32 := Memref.whole cc0_stg0_0
abbrev bM : Memref sig .tc .vmem S512x1024 .f32 := Memref.whole cc0_stg1_0
abbrev oM : Memref sig .tc .vmem S1024x1024 .f32 := Memref.whole cc0_stg2_0
abbrev sM : Memref sig .tc .vmem S512x1024 .f32 := Memref.whole cc0_scratch0

/-- Rectangles of the same sizes at equal offsets are equal. -/
theorem unit_ext {s : Shape} {off off' size : Fin s.rank → Nat} (h : off = off')
    (p : ∀ a, off a + size a ≤ s.size a) (p' : ∀ a, off' a + size a ≤ s.size a) :
    Rect.unit off size p = Rect.unit off' size p' := by subst h; rfl

/-- A load's or a store's chunk is the transfer's chunk. -/
theorem rAcc_eq (c : Dev nD) (j : Fin 32) : rAcc c j = rOwn c j :=
  unit_ext ((k0_off4_eq c j).trans (k0_off3_eq c j).symm) _ _

/-- The other half of a device's rows is the half its neighbour along the second axis works on. -/
theorem rOther_eq (c : Dev nD) (j : Fin 32) : rOther c j = rOwn (yn c) j :=
  unit_ext ((k0_off5_eq c j).trans (Eq.trans (by
    have := c.isLt
    rw [yn_mod]
    have : 16 * j.val + 512 - 512 * (c.val % 2) = 512 * (1 - c.val % 2) + 16 * j.val := by omega
    rw [this]) (k0_off3_eq (yn c) j).symm)) _ _

/-- The neighbour along the first axis names the same chunks. -/
theorem rOwn_xn (c : Dev nD) (j : Fin 32) : rOwn (xn c) j = rOwn c j :=
  unit_ext ((k0_off3_eq (xn c) j).trans (by rw [xn_mod]; exact (k0_off3_eq c j).symm)) _ _

/-! ## Rows -/

/-- Membership in a chunk is a condition on the row alone. -/
theorem mem_rOwn {c : Dev nD} {j : Fin 32} {i : S1024x1024.Idx} :
    i ∈ (rOwn c j).set ↔ 512 * (c.val % 2) + 16 * j.val ≤ (i 0).val ∧ (i 0).val < 512 * (c.val % 2) + 16 * j.val + 16 := by
  rw [Rect.mem_set_unit, k0_off3_eq, Fin.forall_fin_two]
  have h1 : (i 1).val < 1024 := (i 1).isLt
  exact ⟨fun h => h.1, fun h => ⟨h, Nat.zero_le _, by show (i 1).val < 0 + 1024; omega⟩⟩

theorem mem_rBlk {c : Dev nD} {b : Fin 4} {i : S1024x1024.Idx} :
    i ∈ (rBlk c b).set ↔ 512 * (c.val % 2) + 128 * b.val ≤ (i 0).val ∧ (i 0).val < 512 * (c.val % 2) + 128 * b.val + 128 := by
  rw [Rect.mem_set_unit, k0_off2_eq, Fin.forall_fin_two]
  have h1 : (i 1).val < 1024 := (i 1).isLt
  exact ⟨fun h => h.1, fun h => ⟨h, Nat.zero_le _, by show (i 1).val < 0 + 1024; omega⟩⟩

theorem mem_rRecv {j : Fin 32} {i : S512x1024.Idx} :
    i ∈ (rRecv j).set ↔ 16 * j.val ≤ (i 0).val ∧ (i 0).val < 16 * j.val + 16 := by
  rw [Rect.mem_set_unit, Fin.forall_fin_two]
  have h1 : (i 1).val < 1024 := (i 1).isLt
  exact ⟨fun h => h.1, fun h => ⟨h, Nat.zero_le _, by show (i 1).val < 0 + 1024; omega⟩⟩

theorem mem_chunksOf {b : Fin 4} {j : Fin 32} : j ∈ (chunksOf b).toFinset ↔ j.val / 8 = b.val := by
  revert b j; decide

theorem chunksOf_nodup (b : Fin 4) : (chunksOf b).Nodup := by revert b; decide
theorem chunks_nodup : chunks.Nodup := by decide
theorem chunks_univ : chunks.toFinset = Finset.univ := by decide

/-- A block of 128 rows is its eight chunks. -/
theorem blk_eq (c : Dev nD) (b : Fin 4) :
    ((chunksOf b).toFinset.biUnion fun j => (rOwn c j).set) = (rBlk c b).set := by
  ext i
  simp only [Finset.mem_biUnion, mem_chunksOf, mem_rOwn, mem_rBlk]
  constructor
  · rintro ⟨j, h, h1, h2⟩; omega
  · intro ⟨h1, h2⟩
    exact ⟨⟨((i 0).val - 512 * (c.val % 2)) / 16, by omega⟩, by show _ / 16 / 8 = _; omega,
      by show _ + 16 * (_ / 16) ≤ _; omega, by show _ < _ + 16 * (_ / 16) + 16; omega⟩

/-- The half of the rows a device works on is its four blocks, -/
def half (c : Dev nD) : Finset S1024x1024.Idx := Finset.univ.biUnion fun j : Fin 32 => (rOwn c j).set

theorem mem_half {c : Dev nD} {i : S1024x1024.Idx} : i ∈ half c ↔ (i 0).val / 512 = c.val % 2 := by
  have h0 : (i 0).val < 1024 := (i 0).isLt
  simp only [half, Finset.mem_biUnion, Finset.mem_univ, true_and, mem_rOwn]
  constructor
  · rintro ⟨j, h1, h2⟩; omega
  · intro h
    exact ⟨⟨((i 0).val - 512 * (c.val % 2)) / 16, by omega⟩, by show _ + 16 * (_ / 16) ≤ _; omega,
      by show _ < _ + 16 * (_ / 16) + 16; omega⟩

theorem half_blks (c : Dev nD) : half c = Finset.univ.biUnion fun b : Fin 4 => (rBlk c b).set := by
  ext i
  have h0 : (i 0).val < 1024 := (i 0).isLt
  simp only [mem_half, Finset.mem_biUnion, Finset.mem_univ, true_and, mem_rBlk]
  constructor
  · intro h
    exact ⟨⟨((i 0).val - 512 * (c.val % 2)) / 128, by omega⟩, by show _ + 128 * (_ / 128) ≤ _; omega,
      by show _ < _ + 128 * (_ / 128) + 128; omega⟩
  · rintro ⟨b, h1, h2⟩; omega

/-- and the two halves are all the rows. -/
theorem halves (c : Dev nD) : half c ∪ half (yn c) = Finset.univ := by
  ext i
  have h0 : (i 0).val < 1024 := (i 0).isLt
  simp only [Finset.mem_union, mem_half, yn_mod, Finset.mem_univ, iff_true]; omega

theorem halves_disjoint (c : Dev nD) : Disjoint (half c) (half (yn c)) :=
  Finset.disjoint_left.mpr fun i h h' => by rw [mem_half] at h h'; rw [yn_mod] at h'; omega

theorem rOwn_disjoint (c : Dev nD) {j j' : Fin 32} (h : j ≠ j') : Disjoint (rOwn c j).set (rOwn c j').set :=
  Finset.disjoint_left.mpr fun i hi hi' => h (Fin.ext (by rw [mem_rOwn] at hi hi'; omega))

theorem rBlk_disjoint (c : Dev nD) {b b' : Fin 4} (h : b ≠ b') : Disjoint (rBlk c b).set (rBlk c b').set :=
  Finset.disjoint_left.mpr fun i hi hi' => h (Fin.ext (by rw [mem_rBlk] at hi hi'; omega))

theorem rRecv_disjoint {j j' : Fin 32} (h : j ≠ j') : Disjoint (rRecv j).set (rRecv j').set :=
  Finset.disjoint_left.mpr fun i hi hi' => h (Fin.ext (by rw [mem_rRecv] at hi hi'; omega))

/-- The receive buffer is its 32 chunks. -/
theorem recv_eq : (Finset.univ.biUnion fun j : Fin 32 => (rRecv j).set) = Finset.univ := by
  ext i
  have h0 : (i 0).val < 512 := (i 0).isLt
  simp only [Finset.mem_biUnion, Finset.mem_univ, true_and, mem_rRecv, iff_true]
  exact ⟨⟨(i 0).val / 16, by omega⟩, by show 16 * (_ / 16) ≤ _; omega, by show _ < 16 * (_ / 16) + 16; omega⟩

/-! ## The cells -/

/-- Semaphore `j` of table `k` of the kernel's four: sends and receives of the first exchange,
    sends and receives of the second. -/
def dsem (k : Fin 4) (j : Fin 32) : DmaSem sig := ⟨3 + 32 * k.val + j.val, by show _ < 131; omega⟩

theorem slot_1 (j : Fin 32) : slot cc0_scratch1 j = dsem 0 j := by revert j; decide
theorem slot_2 (j : Fin 32) : slot cc0_scratch2 j = dsem 1 j := by revert j; decide
theorem slot_3 (j : Fin 32) : slot cc0_scratch3 j = dsem 2 j := by revert j; decide
theorem slot_4 (j : Fin 32) : slot cc0_scratch4 j = dsem 3 j := by revert j; decide

/-- The kernel's cells on a device: the meeting point, and one per transfer end. -/
abbrev Cell : Type := Option (Fin 4 × Fin 32)

abbrev csem : Cell → SemLoc sig := fun | none => .reg barSem | some p => .dma (dsem p.1 p.2)

/-- Which of the kernel's cells a semaphore is, if any. -/
def which : SemLoc sig → Option Cell
  | .reg _ => some none
  | .dma q => if h : 3 ≤ q.val then
      some (some (⟨(q.val - 3) / 32, by have : q.val < 131 := q.isLt; omega⟩, ⟨(q.val - 3) % 32, by omega⟩)) else none

theorem which_csem (k : Cell) : which (csem k) = some k := by
  cases k with
  | none => rfl
  | some p =>
    obtain ⟨k, j⟩ := p
    have hv : (dsem k j).val = 3 + 32 * k.val + j.val := rfl
    show (if h : 3 ≤ (dsem k j).val then _ else _) = _
    rw [dif_pos (by omega)]
    refine congrArg some (congrArg some (Prod.ext (Fin.ext ?_) (Fin.ext ?_)))
    · show ((dsem k j).val - 3) / 32 = k.val; omega
    · show ((dsem k j).val - 3) % 32 = j.val; omega

theorem csem_injective : Function.Injective csem := fun a b h => by
  have := congrArg which h
  rw [which_csem, which_csem] at this
  exact Option.some.inj this

abbrev kcell (ck : Dev nD × Cell) : GSem nD τ sig := ((ck.1 : Thread nD τ), csem ck.2)
abbrev bar (c : Dev nD) : GSem nD τ sig := kcell (c, none)
abbrev dcell (c : Dev nD) (k : Fin 4) (j : Fin 32) : GSem nD τ sig := kcell (c, some (k, j))

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- What one transfer of a chunk adds to its semaphores. -/
abbrev N : ℕ := (sM.slice (rRecv 0) (fun _ => rfl) : Memref sig .tc .vmem S16x1024 .f32).view.dmaCredit
theorem N_pos : 0 < N := View.dmaCredit_pos _ (by decide)
theorem credit_recv (j : Fin 32) : (sM.slice (rRecv j) (fun _ => rfl) : Memref sig .tc .vmem S16x1024 .f32).view.dmaCredit = N := rfl
theorem credit_own (c : Dev nD) (j : Fin 32) :
    (oM.slice (rOwn c j) (fun _ => rfl) : Memref sig .tc .vmem S16x1024 .f32).view.dmaCredit = N := rfl

/-! ## Contents -/

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- A device's block of the left operand, as staged, -/
def lhs (c : Dev nD) : (cc0_stg0_0 : Ref sig .tc).ty.Contents (Elt F) :=
  (win0_0.blk (0 : Fin 1)).view.read (Elt F) ((s₀ m ρ).mem ((c : Thread nD τ).loc main_arg0))
/-- and of the right operand. -/
def rhs (c : Dev nD) : (cc0_stg1_0 : Ref sig .tc).ty.Contents (Elt F) :=
  (win0_1.blk (0 : Fin 1)).view.read (Elt F) ((s₀ m ρ).mem ((c : Thread nD τ).loc main_arg1))

/-- Block `b` of a device's partial product. -/
def blkV (c : Dev nD) (b : Fin 4) : FVec F S128x1024 .f32 :=
  k0_pay1 (aM.view.readAt (Elt F) (rLhs c b).toLoadRect (lhs m ρ c)) (bM.view.readAt (Elt F) rRhs.toLoadRect (rhs m ρ c))

/-- A device's partial product, at the rows of its half (and, off them, whatever the row numbers
    modulo the half's height name). -/
def part (c : Dev nD) : (cc0_stg2_0 : Ref sig .tc).ty.Contents (Elt F) := fun i =>
  blkV m ρ c ⟨(i 0).val % 512 / 128, by omega⟩ (ix2 ⟨(i 0).val % 128, by omega⟩ (i 1))

/-- What a device receives of its neighbour's partial product. -/
def recvd (c : Dev nD) : (cc0_scratch0 : Ref sig .tc).ty.Contents (Elt F) := fun i =>
  part m ρ (xn c) (ix2 ⟨512 * (c.val % 2) + (i 0).val, by
    have h : (i 0).val < 512 := (i 0).isLt
    omega⟩ (i 1))

/-- The sum of a device's partial product and its neighbour's. -/
def total (c : Dev nD) : (cc0_stg2_0 : Ref sig .tc).ty.Contents (Elt F) := fun i =>
  FloatOps.addf (F := F) (φ := .f32) (part m ρ c i) (part m ρ (xn c) i)

/-- A device's output: the sums it computed at its half of the rows, those its neighbour along the
    second axis computed at the other. -/
def out (c : Dev nD) : (cc0_stg2_0 : Ref sig .tc).ty.Contents (Elt F) := fun i =>
  if (i 0).val / 512 = c.val % 2 then total m ρ c i else total m ρ (yn c) i

/-! ## What the steps write -/

/-- Writing through a rectangle of a whole buffer leaves, at the rectangle's elements, whatever
    contents the payload are the rectangle's elements of. -/
theorem write_on {b : Ref sig .tc} {r : Rect b.ty.shape} (f g : b.ty.Contents (Elt F))
    (w : r.shape.Idx → Elt F b.ty.elt) (h : ∀ k, w k = g (r.emb k)) :
    ∀ i ∈ r.set, ((Memref.whole b).access r).write (Elt F) f w Finset.univ i = g i := fun i hi => by
  rw [← Rect.map_emb_univ, Finset.mem_map] at hi
  obtain ⟨k, -, rfl⟩ := hi
  exact (View.write_emb_of_mem (v := (Memref.whole b).access r) f w (Finset.mem_univ k)).trans (h k)

/-- The element of a chunk of the output, by its row and column. -/
theorem rOwn_emb (c : Dev nD) (j : Fin 32) (k : (rOwn c j).shape.Idx) :
    (rOwn c j).emb k = ix2 (n0 := 1024) (n1 := 1024)
      ⟨512 * (c.val % 2) + 16 * j.val + (k 0).val, by have h : (k 0).val < 16 := (k 0).isLt; omega⟩ ⟨(k 1).val, (k 1).isLt⟩ := by
  funext a
  refine Fin.ext ?_
  rw [Rect.emb_apply]
  match a with
  | ⟨0, _⟩ => show k0_off3 c _ 0 + 1 * (k 0).val = _; rw [k0_off3_eq, Nat.one_mul]; rfl
  | ⟨1, _⟩ => show k0_off3 c (BitVec.ofNat 32 (16 * j.val)) 1 + 1 * (k 1).val = _; rw [k0_off3_eq, Nat.one_mul]; exact Nat.zero_add _

theorem rBlk_emb (c : Dev nD) (b : Fin 4) (k : (rBlk c b).shape.Idx) :
    (rBlk c b).emb k = ix2 (n0 := 1024) (n1 := 1024)
      ⟨512 * (c.val % 2) + 128 * b.val + (k 0).val, by have h : (k 0).val < 128 := (k 0).isLt; omega⟩ ⟨(k 1).val, (k 1).isLt⟩ := by
  funext a
  refine Fin.ext ?_
  rw [Rect.emb_apply]
  match a with
  | ⟨0, _⟩ => show k0_off2 c _ 0 + 1 * (k 0).val = _; rw [k0_off2_eq, Nat.one_mul]; rfl
  | ⟨1, _⟩ => show k0_off2 c (BitVec.ofNat 32 (128 * b.val)) 1 + 1 * (k 1).val = _; rw [k0_off2_eq, Nat.one_mul]; exact Nat.zero_add _

theorem rRecv_emb (j : Fin 32) (k : (rRecv j).shape.Idx) :
    (rRecv j).emb k = ix2 (n0 := 512) (n1 := 1024)
      ⟨16 * j.val + (k 0).val, by have h : (k 0).val < 16 := (k 0).isLt; omega⟩ ⟨(k 1).val, (k 1).isLt⟩ := by
  funext a
  refine Fin.ext ?_
  rw [Rect.emb_apply]
  match a with
  | ⟨0, _⟩ => show 16 * j.val + 1 * (k 0).val = _; rw [Nat.one_mul]
  | ⟨1, _⟩ => show 0 + 1 * (k 1).val = _; rw [Nat.one_mul]; exact Nat.zero_add _

/-- The neighbour along the first axis names the same elements. -/
theorem rOwn_xn_emb (c : Dev nD) (j : Fin 32) (k : S16x1024.Idx) : (rOwn (xn c) j).emb k = (rOwn c j).emb k := by
  rw [rOwn_emb, rOwn_emb]; simp only [xn_mod]

/-- The chunk received is the neighbour's chunk of the same number. -/
theorem recvd_emb (c : Dev nD) (j : Fin 32) (k : S16x1024.Idx) :
    recvd m ρ c ((rRecv j).emb k) = part m ρ (xn c) ((rOwn c j).emb k) := by
  have h : (k 0).val < 16 := (k 0).isLt
  rw [rRecv_emb, rOwn_emb]
  refine congrArg (part m ρ (xn c)) (funext fun a => Fin.ext ?_)
  match a with
  | ⟨0, _⟩ => show 512 * (c.val % 2) + (16 * j.val + (k 0).val) = 512 * (c.val % 2) + 16 * j.val + (k 0).val; omega
  | ⟨1, _⟩ => rfl

/-- Storing block `b` of the partial product. -/
theorem store_blk (c : Dev nD) (b : Fin 4) (f : (cc0_stg2_0 : Ref sig .tc).ty.Contents (Elt F)) :
    ∀ i ∈ (rBlk c b).set, (oM.access (rBlk c b)).write (Elt F) f (blkV m ρ c b) Finset.univ i = part m ρ c i :=
  write_on (b := cc0_stg2_0) (r := rBlk c b) f _ _ fun k => by
    have h0 : (k 0).val < 128 := (k 0).isLt
    rw [rBlk_emb]
    unfold part
    have hb : (⟨(512 * (c.val % 2) + 128 * b.val + (k 0).val) % 512 / 128, by omega⟩ : Fin 4) = b := Fin.ext (by
      show _ % 512 / 128 = _; omega)
    have hk : k = ix2 (n0 := 128) (n1 := 1024) ⟨(512 * (c.val % 2) + 128 * b.val + (k 0).val) % 128, by omega⟩ ⟨(k 1).val, (k 1).isLt⟩ := by
      funext a
      match a with
      | ⟨0, _⟩ => exact Fin.ext (by show (k 0).val = _ % 128; omega)
      | ⟨1, _⟩ => rfl
    exact (congrArg (blkV m ρ c b) hk).trans (congrArg (fun b' => blkV m ρ c b' _) hb.symm)

/-- A chunk of the partial product arriving in the neighbour's receive buffer. -/
theorem land_recv (c : Dev nD) (j : Fin 32) (f : (cc0_scratch0 : Ref sig .tc).ty.Contents (Elt F)) :
    ∀ i ∈ (rRecv j).set, (sM.access (rRecv j)).write (Elt F) f ((oM.access (rOwn c j)).read (Elt F) (part m ρ c)) Finset.univ i
      = recvd m ρ (xn c) i :=
  write_on (b := cc0_scratch0) (r := rRecv j) f _ _ fun k => by
    refine Eq.trans ?_ (recvd_emb m ρ (xn c) j k).symm
    rw [xn_xn]
    exact congrArg (part m ρ c) (rOwn_xn_emb c j k).symm

/-- Storing a chunk of the sum. -/
theorem store_sum (c : Dev nD) (j : Fin 32) (f : (cc0_stg2_0 : Ref sig .tc).ty.Contents (Elt F)) :
    ∀ i ∈ (rOwn c j).set, (oM.access (rOwn c j)).write (Elt F) f
        (k0_pay6 ((oM.access (rOwn c j)).read (Elt F) (part m ρ c)) ((sM.access (rRecv j)).read (Elt F) (recvd m ρ c))) Finset.univ i
      = total m ρ c i :=
  write_on (b := cc0_stg2_0) (r := rOwn c j) f _ _ fun k => by
    have h : (sM.access (rRecv j)).read (Elt F) (recvd m ρ c) k = part m ρ (xn c) ((rOwn c j).emb k) := recvd_emb m ρ c j k
    unfold k0_pay6 total
    rw [Idealize.ShloMosaic.shapeCast_self]
    exact congrArg (FloatOps.addf (F := F) (φ := .f32) (part m ρ c ((rOwn c j).emb k))) h

/-- A chunk of the sum arriving in the other neighbour's output. -/
theorem land_sum (c : Dev nD) (j : Fin 32) (f : (cc0_stg2_0 : Ref sig .tc).ty.Contents (Elt F)) :
    ∀ i ∈ (rOwn c j).set, (oM.access (rOwn c j)).write (Elt F) f ((oM.access (rOwn c j)).read (Elt F) (total m ρ c)) Finset.univ i
      = total m ρ c i :=
  write_on (b := cc0_stg2_0) (r := rOwn c j) f _ _ fun k => rfl

end Cert.KernelIdeal.Steps
-- ==== Proof.Protocol.lean ====
/- The protocol between the devices: what each semaphore's units stand for, what they hand over,
   what each device owes, and in which order waits may be made. -/
module

public import proofs.«01_k».proof.Proof.Data

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part and the exchange's, whose duties are named by `Bool` -/

abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-! ## Pieces of buffers -/

/-- Rows `S` of device `c`'s output buffer, holding `f`. -/
def outP (c : Dev nD) (S : Finset S1024x1024.Idx) (f : (cc0_stg2_0 : Ref sig .tc).ty.Contents (Elt F)) : sProp 𝕄 :=
  (c : Thread nD τ).loc cc0_stg2_0 ↦[S]{fullShare} f
/-- Rows `S` of device `c`'s receive buffer, holding `f`. -/
def recP (c : Dev nD) (S : Finset S512x1024.Idx) (f : (cc0_scratch0 : Ref sig .tc).ty.Contents (Elt F)) : sProp 𝕄 :=
  (c : Thread nD τ).loc cc0_scratch0 ↦[S]{fullShare} f
/-- The same, the contents unknown. -/
def outQ (c : Dev nD) (S : Finset S1024x1024.Idx) : sProp 𝕄 := iprop(∃ f, outP (F := F) c S f)
def recQ (c : Dev nD) (S : Finset S512x1024.Idx) : sProp 𝕄 := iprop(∃ f, recP (F := F) c S f)

omit [FloatOps F] in
instance outP_storable (c : Dev nD) (S f) : BI.Storable (upEmb : UEmb _ 𝕄) (outP (F := F) c S f) := by unfold outP; infer_instance
omit [FloatOps F] in
instance recP_storable (c : Dev nD) (S f) : BI.Storable (upEmb : UEmb _ 𝕄) (recP (F := F) c S f) := by unfold recP; infer_instance
omit [FloatOps F] in
instance outQ_storable (c : Dev nD) (S) : BI.Storable (upEmb : UEmb _ 𝕄) (outQ (F := F) c S) := by unfold outQ; infer_instance
omit [FloatOps F] in
instance recQ_storable (c : Dev nD) (S) : BI.Storable (upEmb : UEmb _ 𝕄) (recQ (F := F) c S) := by unfold recQ; infer_instance

/-! ## The schedule -/

/-- What the two units of a device's meeting point hand it: the chunks of its first neighbour's
    receive buffer (unit `false`), and those of its second neighbour's output buffer that it will
    fill (unit `true`). -/
def barPay (c : Dev nD) (d : Bool) : sProp 𝕄 :=
  if d then bigSep Finset.univ fun j : Fin 32 => outQ (F := F) (yn c) (rOwn c j).set
  else bigSep Finset.univ fun j : Fin 32 => recQ (F := F) (xn c) (rRecv j).set

/-- What a transfer's end hands the device it happens on: at the sending end the chunk sent, at the
    receiving end the chunk landed. -/
def xferPay (c : Dev nD) (k : Fin 4) (j : Fin 32) : sProp 𝕄 :=
  match k with
  | 0 => outP c (rOwn c j).set (part m ρ c)
  | 1 => recP c (rRecv j).set (recvd m ρ c)
  | 2 => outP c (rOwn c j).set (total m ρ c)
  | 3 => outP c (rOwn (yn c) j).set (total m ρ (yn c))

/-- The duties of a cell of the kernel's: two at a meeting point, one at a transfer's end; any other
    semaphore has none. -/
def dutiesOf : Option Cell → Finset Bool
  | none => ∅
  | some none => Finset.univ
  | some (some _) => {false}
/-- The units of one duty: one at a meeting point, the chunk's credit at a transfer's end. -/
def unitsOf : Option Cell → ℕ
  | none => 1
  | some none => 1
  | some (some _) => N
/-- What a duty hands device `c`. -/
def payOf (c : Dev nD) (d : Bool) : Option Cell → sProp 𝕄
  | none => iprop(emp)
  | some none => barPay c d
  | some (some p) => xferPay m ρ c p.1 p.2

theorem unitsOf_pos (k : Option Cell) : 0 < unitsOf k := by
  cases k with
  | none => exact Nat.one_pos
  | some k => cases k with
    | none => exact Nat.one_pos
    | some p => exact N_pos

/-- The schedule: one round. -/
def sched : Rounds.Schedule (GSem nD τ sig) Bool 𝕄 where
  duties g r := if r = 0 ∧ g.1.2 = .tc then dutiesOf (which g.2) else ∅
  unitless _ := False
  amount g _ _ := unitsOf (which g.2)
  payload g _ d := payOf m ρ g.1.1 d (which g.2)
  amount_pos g _ _ _ := unitsOf_pos _

omit [FloatOps F] in
instance barPay_storable (c : Dev nD) (d : Bool) : BI.Storable (upEmb : UEmb _ 𝕄) (barPay (F := F) c d) := by
  unfold barPay; split <;> infer_instance
instance xferPay_storable (c : Dev nD) (k : Fin 4) (j : Fin 32) : BI.Storable (upEmb : UEmb _ 𝕄) (xferPay (F := F) m ρ c k j) := by
  unfold xferPay; split <;> infer_instance
instance sched_storable (g : GSem nD τ sig) (r : ℕ) (d : Bool) :
    BI.Storable (upEmb : UEmb _ 𝕄) ((sched (F := F) m ρ).payload g r d) := by
  show BI.Storable upEmb (payOf m ρ g.1.1 d (which g.2))
  unfold payOf; split <;> infer_instance

section Sched
variable (c : Dev nD) (k : Fin 4) (j : Fin 32)

theorem duties_kcell (k : Cell) : (sched (F := F) m ρ).duties (kcell (c, k)) 0 = dutiesOf (some k) := by
  dsimp only [sched]; rw [which_csem]; exact if_pos ⟨rfl, rfl⟩
theorem amount_kcell (k : Cell) (d : Bool) : (sched (F := F) m ρ).amount (kcell (c, k)) 0 d = unitsOf (some k) := by
  dsimp only [sched]; rw [which_csem]
theorem payload_kcell (k : Cell) (d : Bool) : (sched (F := F) m ρ).payload (kcell (c, k)) 0 d = payOf m ρ c d (some k) := by
  dsimp only [sched]; rw [which_csem]
/-- No cell has a duty after round 0. -/
theorem duties_later (g : GSem nD τ sig) : ∀ r, 1 ≤ r → (sched (F := F) m ρ).duties g r = ∅ :=
  fun r hr => if_neg fun h => by omega

theorem duties_bar : (sched (F := F) m ρ).duties (bar c) 0 = Finset.univ := duties_kcell m ρ c none
theorem duties_xfer : (sched (F := F) m ρ).duties (dcell c k j) 0 = {false} := duties_kcell m ρ c (some (k, j))
theorem amount_bar (d : Bool) : (sched (F := F) m ρ).amount (bar c) 0 d = 1 := amount_kcell m ρ c none d
theorem amount_xfer (d : Bool) : (sched (F := F) m ρ).amount (dcell c k j) 0 d = N := amount_kcell m ρ c (some (k, j)) d
theorem payload_bar (d : Bool) : (sched (F := F) m ρ).payload (bar c) 0 d = barPay c d := payload_kcell m ρ c none d
theorem payload_xfer (d : Bool) : (sched (F := F) m ρ).payload (dcell c k j) 0 d = xferPay m ρ c k j := payload_kcell m ρ c (some (k, j)) d
theorem expect_bar : (sched (F := F) m ρ).expect (bar c) 0 = 2 := by
  unfold Schedule.expect Schedule.amountOf
  rw [duties_bar, Finset.sum_congr rfl fun d _ => amount_bar m ρ c d, Finset.sum_const, Finset.card_univ, Fintype.card_bool, smul_eq_mul]
theorem expect_xfer : (sched (F := F) m ρ).expect (dcell c k j) 0 = N := by
  unfold Schedule.expect Schedule.amountOf; rw [duties_xfer, Finset.sum_singleton, amount_xfer]

/-- All a meeting point hands over. -/
theorem rest_bar : bigSep ((sched (F := F) m ρ).duties (bar c) 0 \ ∅) (fun d => (sched (F := F) m ρ).payload (bar c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
/-- All a transfer's end hands over. -/
theorem rest_xfer : bigSep ((sched (F := F) m ρ).duties (dcell c k j) 0 \ ∅) (fun d => (sched (F := F) m ρ).payload (dcell c k j) 0 d)
    = xferPay m ρ c k j := by
  rw [Finset.sdiff_empty, duties_xfer, bigSep_singleton, payload_xfer]

end Sched

/-! ## What each device owes, and the levels -/

/-- The credits of the first exchange's chunks `S` that device `c` still has to send, -/
def oweX (c : Dev nD) (S : Finset (Fin 32)) : CellTallies nD τ sig Unit := ∑ j ∈ S, tallyAt (dcell (xn c) 1 j) () N
/-- and of the second's. -/
def oweY (c : Dev nD) (S : Finset (Fin 32)) : CellTallies nD τ sig Unit := ∑ j ∈ S, tallyAt (dcell (yn c) 3 j) () N
/-- What a device owes from its meeting on. -/
def owe₁ (c : Dev nD) : CellTallies nD τ sig Unit := oweX c Finset.univ + oweY c Finset.univ
/-- What it owes at launch. -/
def owe₀ (c : Dev nD) : CellTallies nD τ sig Unit := owe₁ c + tallyAt (bar (yn c)) () 1 + tallyAt (bar (xn c)) () 1

theorem oweX_insert (c : Dev nD) {j : Fin 32} {S : Finset (Fin 32)} (h : j ∉ S) :
    oweX c (insert j S) = oweX c S + tallyAt (dcell (xn c) 1 j) () N := by
  unfold oweX; rw [Finset.sum_insert h, add_comm]
theorem oweY_insert (c : Dev nD) {j : Fin 32} {S : Finset (Fin 32)} (h : j ∉ S) :
    oweY c (insert j S) = oweY c S + tallyAt (dcell (yn c) 3 j) () N := by
  unfold oweY; rw [Finset.sum_insert h, add_comm]
theorem oweX_union (c : Dev nD) {S T : Finset (Fin 32)} (h : Disjoint S T) : oweX c (S ∪ T) = oweX c S + oweX c T := by
  unfold oweX; exact Finset.sum_union h
theorem oweX_empty (c : Dev nD) : oweX c ∅ = 0 := Finset.sum_empty
theorem oweY_empty (c : Dev nD) : oweY c ∅ = 0 := Finset.sum_empty

/-- A cell owed by one tally is that tally's. -/
theorem tallyAt_pos {g g' : GSem nD τ sig} {u u' : Unit} {k : ℕ} (h : 0 < tallyAt g u k g' u') : g' = g := by
  by_contra hn
  rw [tallyAt_apply, if_neg fun h' => hn h'.1] at h
  exact Nat.lt_irrefl 0 h
/-- A cell owed by a sum of tallies is one of the summands'. -/
theorem sum_pos {I : Type} (S : Finset I) (O : I → CellTallies nD τ sig Unit) {g : GSem nD τ sig} {u : Unit}
    (h : 0 < (∑ j ∈ S, O j) g u) : ∃ j, 0 < O j g u := by
  by_contra hn
  refine absurd h (Nat.not_lt.mpr ?_)
  rw [Finset.sum_apply, Finsupp.finset_sum_apply]
  exact (Finset.sum_eq_zero fun j _ => Nat.eq_zero_of_not_pos fun hj => hn ⟨j, hj⟩).le
theorem add_pos' {O O' : CellTallies nD τ sig Unit} {g : GSem nD τ sig} {u : Unit} (h : 0 < (O + O') g u) : 0 < O g u ∨ 0 < O' g u := by
  rw [Pi.add_apply, Finsupp.add_apply] at h; omega

theorem oweX_pos {c : Dev nD} {S : Finset (Fin 32)} {g : GSem nD τ sig} {u : Unit} (h : 0 < oweX c S g u) : ∃ j, g = dcell (xn c) 1 j :=
  (sum_pos S _ h).imp fun _ => tallyAt_pos
theorem oweY_pos {c : Dev nD} {S : Finset (Fin 32)} {g : GSem nD τ sig} {u : Unit} (h : 0 < oweY c S g u) : ∃ j, g = dcell (yn c) 3 j :=
  (sum_pos S _ h).imp fun _ => tallyAt_pos

/-- The devices' own cells are the levelled ones: -/
def L (g : GSem nD τ sig) : Finset Unit := if g.1.2 = .tc then {()} else ∅
/-- meeting points at 1, the first exchange's receiving ends at 2, the second's at 3, all else at 0. -/
def lvOf : Option Cell → ℕ
  | none => 0
  | some none => 1
  | some (some p) => if p.1 = 1 then 2 else if p.1 = 3 then 3 else 0
def lv (g : GSem nD τ sig) (_ : Unit) : ℕ := lvOf (which g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (bar c) u = 1 := rfl
theorem lv_xfer (c : Dev nD) (k : Fin 4) (j : Fin 32) (u : Unit) : lv (dcell c k j) u = if k = 1 then 2 else if k = 3 then 3 else 0 :=
  congrArg lvOf (which_csem (some (k, j)))

/-- A device may wait on one of its cells while all it owes is at devices' cells of higher levels. -/
theorem mayWait (c : Dev nD) (sm : SemLoc sig) (n : ℕ) (hn : lv ((c : Thread nD τ), sm) () ≤ n) (O : CellTallies nD τ sig Unit)
    (hO : ∀ g u, 0 < O g u → ∃ c' : Dev nD, ∃ sm' : SemLoc sig, g = ((c' : Thread nD τ), sm') ∧ n < lv g ()) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u h => by obtain ⟨c', sm', rfl, -⟩ := hO g u h; rw [L_tc]; exact Finset.mem_singleton_self _)
    (fun p hp => by rw [Finset.mem_singleton.mp hp]; exact hn)
    (fun g u h => by obtain ⟨c', sm', -, h'⟩ := hO g u h; exact h')

theorem oweX_above {n : ℕ} (hn : n < 2) (c : Dev nD) (S : Finset (Fin 32)) (g : GSem nD τ sig) (u : Unit) (h : 0 < oweX c S g u) :
    ∃ c' : Dev nD, ∃ sm' : SemLoc sig, g = ((c' : Thread nD τ), sm') ∧ n < lv g () := by
  obtain ⟨j, rfl⟩ := oweX_pos h; exact ⟨_, _, rfl, by rw [lv_xfer]; exact hn⟩
theorem oweY_above {n : ℕ} (hn : n < 3) (c : Dev nD) (S : Finset (Fin 32)) (g : GSem nD τ sig) (u : Unit) (h : 0 < oweY c S g u) :
    ∃ c' : Dev nD, ∃ sm' : SemLoc sig, g = ((c' : Thread nD τ), sm') ∧ n < lv g () := by
  obtain ⟨j, rfl⟩ := oweY_pos h; exact ⟨_, _, rfl, by rw [lv_xfer]; exact hn⟩

/-- At its meeting point a device owes the two exchanges only. -/
theorem mayWait_bar (c : Dev nD) : (levAts L lv : sProp 𝕄) ⊢ MayWait (c : Thread nD τ) (.reg barSem) () (owe₁ c) :=
  mayWait c _ 1 (le_of_eq (lv_bar c ())) _ fun g u h => (add_pos' h).elim (oweX_above (by decide) c _ g u) (oweY_above (by decide) c _ g u)
/-- At the first exchange's waits it owes the second only, -/
theorem mayWait_mid (c : Dev nD) (k : Fin 4) (hk : k = 0 ∨ k = 1) (j : Fin 32) (S : Finset (Fin 32)) :
    (levAts L lv : sProp 𝕄) ⊢ MayWait (c : Thread nD τ) (.dma (dsem k j)) () (oweY c S) :=
  mayWait c _ 2 (by rw [show ((c : Thread nD τ), SemLoc.dma (dsem k j)) = dcell c k j from rfl, lv_xfer]; rcases hk with rfl | rfl <;> decide) _
    (oweY_above (by decide) c S)
/-- and at the second's nothing. -/
theorem mayWait_end (c : Dev nD) (sm : SemLoc sig) : (levAts L lv : sProp 𝕄) ⊢ MayWait (c : Thread nD τ) sm () 0 := by
  rw [MayWait_zero]; iintro -; iempintro
/-- The pipeline's own waits are at the lowest level. -/
theorem mayWait_stage (c : Dev nD) (q : DmaSem sig) (hq : q.val < 3) (O : CellTallies nD τ sig Unit) (hO : O = owe₀ c ∨ O = 0) :
    (levAts L lv : sProp 𝕄) ⊢ MayWait (c : Thread nD τ) (.dma q) () O := by
  rcases hO with rfl | rfl
  · have hw : lv ((c : Thread nD τ), .dma q) () = 0 := by
      have : which (.dma q : SemLoc sig) = none := dif_neg (by omega)
      exact congrArg lvOf this
    refine mayWait c _ 0 hw.le _ fun g u h => ?_
    rcases add_pos' h with h | h
    · rcases add_pos' h with h | h
      · exact (add_pos' h).elim (oweX_above (by decide) c _ g u) (oweY_above (by decide) c _ g u)
      · obtain rfl := tallyAt_pos h; exact ⟨_, _, rfl, Nat.one_pos⟩
    · obtain rfl := tallyAt_pos h; exact ⟨_, _, rfl, Nat.one_pos⟩
  · exact mayWait_end c _

end Cert.KernelIdeal.Steps
-- ==== Proof.Moves.lean ====
/- Each kind of step of the kernel's body, run once over a symbolic chunk or block: what it needs
   and what it leaves; and the rule that runs a list of such steps. -/
module

public import proofs.«01_k».proof.Proof.Protocol

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running a program of device `c`'s core to `Q`. -/
abbrev run (c : Dev nD) (p : Pgm F) (Q : PUnit → sProp 𝕄) : sProp 𝕄 :=
  wp frame (wpE (defs₀ (F := F)) 𝒱₀ (c : Thread nD τ) none) Set.univ p Q

/-! ## A list of steps -/

omit [FloatOps F] in
/-- A separating conjunction over one more index. -/
theorem sep_insert {ι : Type} [DecidableEq ι] {j : ι} {S : Finset ι} (h : j ∉ S) (Φ : ι → sProp 𝕄) :
    bigSep (insert j S) Φ = iprop(Φ j ∗ bigSep S Φ) := bigSep_insert h

/-- If every step `j`, beside the lasting facts `R`, turns `Pre j` into `Post j` while the running
    state goes from all steps still to make to those after `j`, the whole list does so for all. -/
theorem run_chain {ι : Type} [DecidableEq ι] (c : Dev nD) (step : ι → Pgm F → Pgm F) (R : sProp 𝕄) [BI.Persistent R]
    (Pre Post : ι → sProp 𝕄) (St : Finset ι → sProp 𝕄) (Q : PUnit → sProp 𝕄)
    (h : ∀ (j : ι) (S : Finset ι) (k : Pgm F), j ∉ S →
      iprop(R ∗ Pre j ∗ St (insert j S)) ⊢ iprop(((Post j ∗ St S) -∗ run c k Q) -∗ run c (step j k) Q)) :
    ∀ (l : List ι) (hl : l.Nodup) (k : Pgm F),
      iprop(R ∗ bigSep l.toFinset Pre ∗ St l.toFinset)
        ⊢ iprop(((bigSep l.toFinset Post ∗ St ∅) -∗ run c k Q) -∗ run c (chain step l k) Q)
  | [], _, k => by
    rw [List.toFinset_nil, bigSep_empty, bigSep_empty]
    iintro ⟨-, -, HS⟩ Hk
    iapply Hk
    isplitr; · iempintro
    iexact HS
  | j :: l, hl, k => by
    have hj : j ∉ l.toFinset := fun h' => (List.nodup_cons.mp hl).1 (List.mem_toFinset.mp h')
    rw [List.toFinset_cons, sep_insert hj, sep_insert hj]
    iintro ⟨#HR, ⟨Hj, Hl⟩, HS⟩ Hk
    iapply (h j l.toFinset (chain step l k) hj) $$ [Hj HS]
    · isplitr; · iexact HR
      isplitl [Hj] <;> iassumption
    iintro ⟨Hp, HS⟩
    iapply (run_chain c step R Pre Post St Q h l (List.nodup_cons.mp hl).2 k) $$ [Hl HS]
    · isplitr; · iexact HR
      isplitl [Hl] <;> iassumption
    iintro ⟨Hps, HS⟩
    iapply Hk
    isplitl [Hp Hps]
    · isplitl [Hp] <;> iassumption
    iexact HS

/-! ## The lasting facts -/

/-- Every cell of the kernel's on every device has its record, under the names `K`, and has begun
    its round. -/
def records (K : Dev nD × Cell → ℕ) : sProp 𝕄 :=
  bigSep Finset.univ fun ck : Dev nD × Cell => iprop(cellInv ER (sched m ρ) (K ck) (kcell ck) ∗ reached ER (kcell ck) 0)

instance records_persistent (K : Dev nD × Cell → ℕ) : BI.Persistent (records (F := F) m ρ K) := by unfold records; infer_instance

/-- The records, and the cells' levels. -/
def facts (K : Dev nD × Cell → ℕ) : sProp 𝕄 := iprop(records m ρ K ∗ levAts L lv)

instance facts_persistent (K : Dev nD × Cell → ℕ) : BI.Persistent (facts (F := F) m ρ K) := by unfold facts; infer_instance

theorem facts_cell (K : Dev nD × Cell → ℕ) (ck : Dev nD × Cell) :
    facts m ρ K ⊢ iprop(cellInv ER (sched m ρ) (K ck) (kcell ck) ∗ reached ER (kcell ck) 0) := by
  unfold facts records
  exact (sep_mono_left (bigSep_elim (Finset.mem_univ ck))).trans sep_elim_left
theorem facts_inv (K : Dev nD × Cell → ℕ) (ck : Dev nD × Cell) : facts m ρ K ⊢ cellInv ER (sched m ρ) (K ck) (kcell ck) :=
  (facts_cell m ρ K ck).trans sep_elim_left
theorem facts_reached (K : Dev nD × Cell → ℕ) (ck : Dev nD × Cell) : facts m ρ K ⊢ reached ER (kcell ck) 0 :=
  (facts_cell m ρ K ck).trans sep_elim_right
theorem facts_lev (K : Dev nD × Cell → ℕ) : facts (F := F) m ρ K ⊢ levAts L lv := by
  unfold facts; exact sep_elim_right

/-- What a device still owes, whatever waits it has made. -/
def owing (c : Dev nD) (O : CellTallies nD τ sig Unit) : sProp 𝕄 := iprop(∃ W, owes (c : Thread nD τ) O W)

/-! ## The pieces of buffers as the steps' views name them -/

theorem own_set (c : Dev nD) (j : Fin 32) :
    (oM.slice (rOwn c j) (fun _ => rfl) : Memref sig .tc .vmem S16x1024 .f32).view.set = (rOwn c j).set := View.set_slice_whole _ _
theorem rec_set (j : Fin 32) :
    (sM.slice (rRecv j) (fun _ => rfl) : Memref sig .tc .vmem S16x1024 .f32).view.set = (rRecv j).set := View.set_slice_whole _ _

theorem acc_set (c : Dev nD) (j : Fin 32) : (oM.access (rAcc c j)).set = (rOwn c j).set :=
  (View.set_slice_whole _ _).trans (by rw [rAcc_eq])
theorem credit_other (c : Dev nD) (j : Fin 32) :
    (oM.slice (rOther c j) (fun _ => rfl) : Memref sig .tc .vmem S16x1024 .f32).view.dmaCredit = N := rfl

/-- Storing a chunk of the sum, through a rectangle that is the chunk's whatever way its offsets are
    written. -/
theorem store_at (c : Dev nD) (j : Fin 32) (off : Fin 2 → Nat) (p : ∀ a, off a + S16x1024.size a ≤ S1024x1024.size a)
    (h : off = k0_off3 c (BitVec.ofNat 32 (16 * j.val))) (f : (cc0_stg2_0 : Ref sig .tc).ty.Contents (Elt F)) :
    ∀ i ∈ (rOwn c j).set, (oM.access (Rect.unit (s := S1024x1024) off S16x1024.size p)).write (Elt F) f
        (k0_pay6 ((oM.access (Rect.unit (s := S1024x1024) off S16x1024.size p)).read (Elt F) (part m ρ c))
          ((sM.access (rRecv j)).read (Elt F) (recvd m ρ c))) Finset.univ i
      = total m ρ c i := by
  subst h; exact store_sum m ρ c j f

/-! ## The transfers -/

section
variable (K : Dev nD × Cell → ℕ) (c : Dev nD) (j : Fin 32)

/-- Sending a chunk of the partial product to the first neighbour. -/
theorem run_send_x (n : Dev nD) (hn : n = xn c) (s s' : DmaSem sig) (hs : s = dsem 0 j) (hs' : s' = dsem 1 j)
    {hsrc hdst} {hsem} (k : Pgm F) (Q : PUnit → sProp 𝕄) (O : CellTallies nD τ sig Unit) :
    iprop(facts m ρ K ∗ outP c (rOwn c j).set (part m ρ c) ∗ recQ (F := F) (xn c) (rRecv j).set
        ∗ dutyTok ER (dcell c 0 j) 0 false ∗ dutyTok ER (dcell (xn c) 1 j) 0 false
        ∗ owing c (O + tallyAt (dcell (xn c) 1 j) () N))
      ⊢ iprop(((cred (tallyAt (dcell c 0 j) () N) ∗ owing c O) -∗ run c k Q)
          -∗ run c (.op (.enqueueDma (oM.slice (rOwn c j) (fun _ => rfl))
              (.remote (Dev.tc n) (sM.slice (rRecv j) (fun _ => rfl)) (.dma s)) (.dma s') hsrc hdst hsem) fun _ => k) Q) := by
  subst hn hs hs'
  unfold owing recQ
  iintro ⟨#HR, Hsrc, ⟨%fd, Hdst⟩, Ht, Ht', ⟨%W, HO⟩⟩ Hk
  ihave #HI := (facts_inv m ρ K (c, some (0, j))) $$ HR
  ihave #HI' := (facts_inv m ρ K (xn c, some (1, j))) $$ HR
  ihave #Hr := (facts_reached m ρ K (c, some (0, j))) $$ HR
  ihave #Hr' := (facts_reached m ρ K (xn c, some (1, j))) $$ HR
  unfold outP recP
  iapply (Rounds.wp_send_pointsTo 𝒱₀ ER (sched m ρ) (c : Thread nD τ) none (c' := (xn c : Thread nD τ))
    (src := (oM.slice (rOwn c j) (fun _ => rfl) : Memref sig .tc .vmem S16x1024 .f32))
    (dst := (sM.slice (rRecv j) (fun _ => rfl) : Memref sig .tc .vmem S16x1024 .f32)) (sS := .dma (dsem 0 j)) (sem := .dma (dsem 1 j))
    (κ₁ := K (c, some (0, j))) (κ₂ := K (xn c, some (1, j)))
    (r₁ := 0) (r₂ := 0) (d₁ := false) (d₂ := false) (fs := part m ρ c) (fd := fd)
    (by rw [show ((c : Thread nD τ), SemLoc.dma (dsem 0 j)) = dcell c 0 j from rfl, duties_xfer]; exact Finset.mem_singleton_self _)
    (by rw [show ((xn c : Thread nD τ), SemLoc.dma (dsem 1 j)) = dcell (xn c) 1 j from rfl, duties_xfer]; exact Finset.mem_singleton_self _)
    () () N (credit_recv j) (amount_xfer m ρ c 0 j false) (amount_xfer m ρ (xn c) 1 j false) O rfl (W := W)
    (by rw [show ((c : Thread nD τ), SemLoc.dma (dsem 0 j)) = dcell c 0 j from rfl, payload_xfer, own_set]; exact BI.Entails.refl _)
    (by
      rw [show ((xn c : Thread nD τ), SemLoc.dma (dsem 1 j)) = dcell (xn c) 1 j from rfl, payload_xfer, rec_set]
      exact Entails.of_eq (pointsTo_congr (land_recv m ρ c j fd)))) $$ [Hsrc Hdst HO Ht Ht']
  · isplitr; · iexact HI
    isplitr; · iexact HI'
    isplitl [Hsrc]; · rw [own_set]; iexact Hsrc
    isplitl [Hdst]; · rw [rec_set]; iexact Hdst
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- Sending a chunk of the sums to the second neighbour. -/
theorem run_send_y (n : Dev nD) (hn : n = yn c) (s s' : DmaSem sig) (hs : s = dsem 2 j) (hs' : s' = dsem 3 j)
    {hsrc hdst} {hsem} (k : Pgm F) (Q : PUnit → sProp 𝕄) (O : CellTallies nD τ sig Unit) :
    iprop(facts m ρ K ∗ outP c (rOwn c j).set (total m ρ c) ∗ outQ (F := F) (yn c) (rOwn c j).set
        ∗ dutyTok ER (dcell c 2 j) 0 false ∗ dutyTok ER (dcell (yn c) 3 j) 0 false
        ∗ owing c (O + tallyAt (dcell (yn c) 3 j) () N))
      ⊢ iprop(((cred (tallyAt (dcell c 2 j) () N) ∗ owing c O) -∗ run c k Q)
          -∗ run c (.op (.enqueueDma (oM.slice (rOwn c j) (fun _ => rfl))
              (.remote (Dev.tc n) (oM.slice (rOwn c j) (fun _ => rfl)) (.dma s)) (.dma s') hsrc hdst hsem) fun _ => k) Q) := by
  subst hn hs hs'
  unfold owing outQ
  iintro ⟨#HR, Hsrc, ⟨%fd, Hdst⟩, Ht, Ht', ⟨%W, HO⟩⟩ Hk
  ihave #HI := (facts_inv m ρ K (c, some (2, j))) $$ HR
  ihave #HI' := (facts_inv m ρ K (yn c, some (3, j))) $$ HR
  ihave #Hr := (facts_reached m ρ K (c, some (2, j))) $$ HR
  ihave #Hr' := (facts_reached m ρ K (yn c, some (3, j))) $$ HR
  unfold outP
  iapply (Rounds.wp_send_pointsTo 𝒱₀ ER (sched m ρ) (c : Thread nD τ) none (c' := (yn c : Thread nD τ))
    (src := (oM.slice (rOwn c j) (fun _ => rfl) : Memref sig .tc .vmem S16x1024 .f32))
    (dst := (oM.slice (rOwn c j) (fun _ => rfl) : Memref sig .tc .vmem S16x1024 .f32)) (sS := .dma (dsem 2 j)) (sem := .dma (dsem 3 j))
    (κ₁ := K (c, some (2, j))) (κ₂ := K (yn c, some (3, j)))
    (r₁ := 0) (r₂ := 0) (d₁ := false) (d₂ := false) (fs := total m ρ c) (fd := fd)
    (by rw [show ((c : Thread nD τ), SemLoc.dma (dsem 2 j)) = dcell c 2 j from rfl, duties_xfer]; exact Finset.mem_singleton_self _)
    (by rw [show ((yn c : Thread nD τ), SemLoc.dma (dsem 3 j)) = dcell (yn c) 3 j from rfl, duties_xfer]; exact Finset.mem_singleton_self _)
    () () N (credit_own c j) (amount_xfer m ρ c 2 j false) (amount_xfer m ρ (yn c) 3 j false) O rfl (W := W)
    (by rw [show ((c : Thread nD τ), SemLoc.dma (dsem 2 j)) = dcell c 2 j from rfl, payload_xfer, own_set]; exact BI.Entails.refl _)
    (by
      rw [show ((yn c : Thread nD τ), SemLoc.dma (dsem 3 j)) = dcell (yn c) 3 j from rfl, payload_xfer, own_set]
      unfold xferPay; dsimp only; rw [yn_yn]
      exact Entails.of_eq (pointsTo_congr (land_sum m ρ c j fd)))) $$ [Hsrc Hdst HO Ht Ht']
  · isplitr; · iexact HI
    isplitr; · iexact HI'
    isplitl [Hsrc]; · rw [own_set]; iexact Hsrc
    isplitl [Hdst]; · rw [own_set]; iexact Hdst
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- Waiting for one end of a transfer: the cell closes, its counter at zero, and what the transfer
    hands over is there. -/
theorem run_wait (q : Fin 4) (s : DmaSem sig) (hs : s = dsem q j) {sh sh' : Shape} {e e' : EltTy} {sp sp' : CoreSpace}
    {src : Memref sig .tc sp sh e} {dst : Memref sig .tc sp' sh' e'} {hsrc hdst} (hN : dst.view.dmaCredit = N)
    (k : Pgm F) (Q : PUnit → sProp 𝕄) (O : CellTallies nD τ sig Unit)
    (hO : (levAts L lv : sProp 𝕄) ⊢ MayWait (c : Thread nD τ) (.dma (dsem q j)) () O) :
    iprop(facts m ρ K ∗ cred (tallyAt (dcell c q j) () N) ∗ atPos ER (dcell c q j) 0 ∅ 0 ∗ owing c O)
      ⊢ iprop(((semVal (dcell c q j) 0 ∗ xferPay m ρ c q j ∗ owing c O) -∗ run c k Q)
          -∗ run c (.op (.waitDma2 s src dst hsrc hdst) fun _ => k) Q) := by
  subst hs
  unfold owing
  iintro ⟨#HR, Hc, Hat, ⟨%W, HO⟩⟩ Hk
  ihave #HI := (facts_inv m ρ K (c, some (q, j))) $$ HR
  ihave #Hlev := (facts_lev m ρ K) $$ HR
  iapply (Rounds.wp_wait_rest_token 𝒱₀ ER (sched m ρ) (c : Thread nD τ) none (κ := K (c, some (q, j)))
      (wpE_waitDma2_eq 𝒱₀ (c : Thread nD τ) none Set.univ) (Set.mem_univ _) () (O := O) (W := W) (R := 0) (m := 0) (T := ∅)
      (by rw [Nat.zero_add, hN]; exact (expect_xfer m ρ c q j).symm)) $$ [Hc HO Hat]
  · isplitr; · iexact HI
    isplitl [Hc]; · rw [hN]; iexact Hc
    isplitl [HO]; · iexact HO
    isplitr; · iapply hO; iexact Hlev
    iexact Hat
  iintro ⟨HO, Hat, -, Hpay⟩
  ihave Hp := (Entails.of_eq (rest_xfer m ρ c q j)) $$ Hpay
  imod (Rounds.cell_close ER (sched m ρ) (Set.mem_univ (K (c, some (q, j)))) (fun h => h) (R := 0 + 1) (duties_later m ρ (dcell c q j))) $$ [Hat] with Hz
  · isplitr; · iexact HI
    iexact Hat
  iapply Hk
  isplitl [Hz]; · iexact Hz
  isplitl [Hp]; · iexact Hp
  iexists _; iexact HO

/-- The start of chunk `j`'s transfer of the partial product. -/
theorem run_xStep (k : Pgm F) (Q : PUnit → sProp 𝕄) (O : CellTallies nD τ sig Unit) :
    iprop(facts m ρ K ∗ outP c (rOwn c j).set (part m ρ c) ∗ recQ (F := F) (xn c) (rRecv j).set
        ∗ dutyTok ER (dcell c 0 j) 0 false ∗ dutyTok ER (dcell (xn c) 1 j) 0 false
        ∗ owing c (O + tallyAt (dcell (xn c) 1 j) () N))
      ⊢ iprop(((cred (tallyAt (dcell c 0 j) () N) ∗ owing c O) -∗ run c k Q)
          -∗ run c (xStep oM sM cc0_scratch1 cc0_scratch2 c j k) Q) := by
  unfold xStep
  exact run_send_x m ρ K c j (xTo c) (xTo_eq c) _ _ (slot_1 j) (slot_2 j) k Q O

/-- The sum of chunk `j`: the two ends of its first transfer close, the sum is stored and sent on. -/
theorem run_sumStep (k : Pgm F) (Q : PUnit → sProp 𝕄) (S : Finset (Fin 32)) (hj : j ∉ S) :
    iprop(facts m ρ K ∗ cred (tallyAt (dcell c 0 j) () N) ∗ cred (tallyAt (dcell c 1 j) () N)
        ∗ atPos ER (dcell c 0 j) 0 ∅ 0 ∗ atPos ER (dcell c 1 j) 0 ∅ 0
        ∗ outQ (F := F) (yn c) (rOwn c j).set ∗ dutyTok ER (dcell c 2 j) 0 false ∗ dutyTok ER (dcell (yn c) 3 j) 0 false
        ∗ owing c (oweY c (insert j S)))
      ⊢ iprop(((semVal (dcell c 0 j) 0 ∗ semVal (dcell c 1 j) 0 ∗ recP c (rRecv j).set (recvd m ρ c)
              ∗ cred (tallyAt (dcell c 2 j) () N) ∗ owing c (oweY c S)) -∗ run c k Q)
          -∗ run c (sumStep oM sM cc0_scratch1 cc0_scratch2 cc0_scratch3 cc0_scratch4 c j k) Q) := by
  unfold sumStep
  iintro ⟨#HR, Hc0, Hc1, Ha0, Ha1, Hdst, Ht, Ht', HO⟩ Hk
  iapply (run_wait m ρ K c j 0 _ (slot_1 j) (credit_own c j) _ Q _ (mayWait_mid c 0 (.inl rfl) j (insert j S))) $$ [Hc0 Ha0 HO]
  · isplitr; · iexact HR
    isplitl [Hc0]; · iexact Hc0
    isplitl [Ha0] <;> iassumption
  iintro ⟨Hz0, Hout, HO⟩
  iapply (run_wait m ρ K c j 1 _ (slot_2 j) (credit_recv j) _ Q _ (mayWait_mid c 1 (.inr rfl) j (insert j S))) $$ [Hc1 Ha1 HO]
  · isplitr; · iexact HR
    isplitl [Hc1]; · iexact Hc1
    isplitl [Ha1] <;> iassumption
  iintro ⟨Hz1, Hrec, HO⟩
  unfold xferPay
  dsimp only
  unfold outP recP
  iapply (wp_load_rect 𝒱₀ (c : Thread nD τ) none Set.univ (m := oM) (r := rAcc c j) (acc_set c j).subset) $$ Hout; iintro Hout
  iapply (wp_load_rect 𝒱₀ (c : Thread nD τ) none Set.univ (m := sM) (r := rRecv j) (View.set_slice_whole _ _).subset) $$ Hrec; iintro Hrec
  iapply (wp_load_rect 𝒱₀ (c : Thread nD τ) none Set.univ (m := oM) (r := rAcc c j) (acc_set c j).subset) $$ Hout; iintro Hout
  iapply (wp_store 𝒱₀ (c : Thread nD τ) none Set.univ (m := oM) (r := rAcc c j) (Mk := Finset.univ)
    ((View.setOn_subset_set _ _).trans (acc_set c j).subset)) $$ Hout; iintro Hout
  ihave Hout' := (Entails.of_eq (pointsTo_congr (store_at m ρ c j _ (k0_off4_inb c j) ((k0_off4_eq c j).trans (k0_off3_eq c j).symm) (part m ρ c)))) $$ Hout
  iapply (run_send_y m ρ K c j (yTo c) (yTo_eq c) _ _ (slot_3 j) (slot_4 j) k Q (oweY c S)) $$ [Hout' Hdst Ht Ht' HO]
  · isplitr; · iexact HR
    unfold outP
    isplitl [Hout']; · iexact Hout'
    isplitl [Hdst]; · iexact Hdst
    isplitl [Ht]; · iexact Ht
    isplitl [Ht']; · iexact Ht'
    rw [← oweY_insert c hj]; iexact HO
  iintro ⟨Hc, HO⟩
  iapply Hk
  isplitl [Hz0]; · iexact Hz0
  isplitl [Hz1]; · iexact Hz1
  isplitl [Hrec]; · iexact Hrec
  isplitl [Hc] <;> iassumption

/-- The end of chunk `j`: the two ends of its second transfer close. -/
theorem run_endStep (k : Pgm F) (Q : PUnit → sProp 𝕄) :
    iprop(facts m ρ K ∗ cred (tallyAt (dcell c 2 j) () N) ∗ cred (tallyAt (dcell c 3 j) () N)
        ∗ atPos ER (dcell c 2 j) 0 ∅ 0 ∗ atPos ER (dcell c 3 j) 0 ∅ 0 ∗ owing c 0)
      ⊢ iprop(((semVal (dcell c 2 j) 0 ∗ semVal (dcell c 3 j) 0 ∗ outP c (rOwn c j).set (total m ρ c)
              ∗ outP c (rOwn (yn c) j).set (total m ρ (yn c)) ∗ owing c 0) -∗ run c k Q)
          -∗ run c (endStep oM cc0_scratch3 cc0_scratch4 c j k) Q) := by
  unfold endStep
  iintro ⟨#HR, Hc2, Hc3, Ha2, Ha3, HO⟩ Hk
  iapply (run_wait m ρ K c j 2 _ (slot_3 j) (credit_own c j) _ Q _ (mayWait_end c _)) $$ [Hc2 Ha2 HO]
  · isplitr; · iexact HR
    isplitl [Hc2]; · iexact Hc2
    isplitl [Ha2] <;> iassumption
  iintro ⟨Hz2, Hown, HO⟩
  iapply (run_wait m ρ K c j 3 _ (slot_4 j) (credit_other c j) _ Q _ (mayWait_end c _)) $$ [Hc3 Ha3 HO]
  · isplitr; · iexact HR
    isplitl [Hc3]; · iexact Hc3
    isplitl [Ha3] <;> iassumption
  iintro ⟨Hz3, Hoth, HO⟩
  unfold xferPay
  dsimp only
  iapply Hk
  isplitl [Hz2]; · iexact Hz2
  isplitl [Hz3]; · iexact Hz3
  isplitl [Hown]; · iexact Hown
  isplitl [Hoth] <;> iassumption

end

/-! ## A block of the partial product -/

/-- Device `c`'s staged operands. -/
def aP (c : Dev nD) : sProp 𝕄 := (c : Thread nD τ).loc cc0_stg0_0 ↦{fullShare} lhs m ρ c
def bP (c : Dev nD) : sProp 𝕄 := (c : Thread nD τ).loc cc0_stg1_0 ↦{fullShare} rhs m ρ c

/-- A block's rows hold, once stored, the partial product. -/
theorem run_dotStep (c : Dev nD) (b : Fin 4) (k : Pgm F) (Q : PUnit → sProp 𝕄) :
    iprop(aP m ρ c ∗ bP m ρ c ∗ outQ (F := F) c (rBlk c b).set)
      ⊢ iprop(((aP m ρ c ∗ bP m ρ c ∗ outP c (rBlk c b).set (part m ρ c)) -∗ run c k Q)
          -∗ run c (dotStep aM bM oM c b k) Q) := by
  unfold dotStep aP bP outQ outP
  iintro ⟨Ha, Hb, ⟨%f, Ho⟩⟩ Hk
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load_rect 𝒱₀ (c : Thread nD τ) none Set.univ (m := oM) (r := rBlk c b) (View.set_slice_whole _ _).subset) $$ Ho; iintro Ho
  iapply (wp_store 𝒱₀ (c : Thread nD τ) none Set.univ (m := oM) (r := rBlk c b) (Mk := Finset.univ)
    ((View.setOn_subset_set _ _).trans (View.set_slice_whole _ _).subset)) $$ Ho; iintro Ho
  ihave Ho' := (Entails.of_eq (pointsTo_congr (store_blk m ρ c b f))) $$ Ho
  iapply Hk
  isplitl [Ha]; · iexact Ha
  isplitl [Hb]; · iexact Hb
  iexact Ho'

end Cert.KernelIdeal.Steps
-- ==== Proof.Body.lean ====
/- The kernel's body on one device, from what the launch gives it to what it leaves. -/
module

public import proofs.«01_k».proof.Proof.Moves

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the chunks -/

/-- One assertion per chunk, -/
abbrev all (Φ : Fin 32 → sProp 𝕄) : sProp 𝕄 := bigSep Finset.univ Φ
/-- and per chunk of block `b`. -/
abbrev blk (b : Fin 4) (Φ : Fin 32 → sProp 𝕄) : sProp 𝕄 := bigSep (chunksOf b).toFinset Φ

/-- The chunks are the four blocks'. -/
theorem chunks_blocks : (Finset.univ : Finset (Fin 32))
    = (chunksOf 0).toFinset ∪ ((chunksOf 1).toFinset ∪ ((chunksOf 2).toFinset ∪ (chunksOf 3).toFinset)) := by decide
theorem blocks_disjoint0 : Disjoint (chunksOf 0).toFinset ((chunksOf 1).toFinset ∪ ((chunksOf 2).toFinset ∪ (chunksOf 3).toFinset)) := by decide
theorem blocks_disjoint1 : Disjoint (chunksOf 1).toFinset ((chunksOf 2).toFinset ∪ (chunksOf 3).toFinset) := by decide
theorem blocks_disjoint2 : Disjoint (chunksOf 2).toFinset (chunksOf 3).toFinset := by decide

omit [FloatOps F] in
theorem all_blocks (Φ : Fin 32 → sProp 𝕄) : all Φ = iprop(blk 0 Φ ∗ blk 1 Φ ∗ blk 2 Φ ∗ blk 3 Φ) := by
  unfold all
  rw [chunks_blocks, bigSep_union blocks_disjoint0, bigSep_union blocks_disjoint1, bigSep_union blocks_disjoint2]; rfl

/-- What a device owes from its meeting on, block by block. -/
theorem owe₁_blocks (c : Dev nD) : owe₁ c = oweX c (chunksOf 0).toFinset + (oweX c (chunksOf 1).toFinset
    + (oweX c (chunksOf 2).toFinset + (oweX c (chunksOf 3).toFinset + oweY c Finset.univ))) := by
  unfold owe₁
  rw [show oweX c Finset.univ = _ from congrArg (oweX c) chunks_blocks, oweX_union c blocks_disjoint0, oweX_union c blocks_disjoint1,
    oweX_union c blocks_disjoint2, add_assoc, add_assoc, add_assoc]

omit [FloatOps F] in
/-- A conjunction over four. -/
theorem four (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

omit [FloatOps F] in
/-- A conjunction over the four tables of 32 semaphores, table by table. -/
theorem all_tables (Φ : Fin 4 × Fin 32 → sProp 𝕄) :
    bigSep Finset.univ Φ = iprop(all (fun j => Φ (0, j)) ∗ all (fun j => Φ (1, j)) ∗ all (fun j => Φ (2, j)) ∗ all (fun j => Φ (3, j))) := by
  rw [bigSep_univ_prod, four]

/-! ## The buffers in pieces -/

omit [FloatOps F] in
/-- A conjunction is weakened part by part. -/
theorem pieces_mono {T : Type} {S : Finset T} {Φ Ψ : T → sProp 𝕄} (h : ∀ t, Φ t ⊢ Ψ t) : bigSep S Φ ⊢ bigSep S Ψ :=
  bigSep_mono fun t _ => h t

omit [FloatOps F] in
/-- Rows in pairwise disjoint pieces. -/
theorem outP_pieces {T : Type} (c : Dev nD) (S : Finset T) (A : T → Finset S1024x1024.Idx)
    (h : ∀ t ∈ S, ∀ t' ∈ S, t ≠ t' → Disjoint (A t) (A t')) (f : (cc0_stg2_0 : Ref sig .tc).ty.Contents (Elt F)) :
    outP c (S.biUnion A) f = bigSep S fun t => outP (F := F) c (A t) f := by
  exact pointsTo_biUnion (ℓ := (c : Thread nD τ).loc cc0_stg2_0) (q := fullShare) (f := f) S A h

omit [FloatOps F] in
theorem recP_pieces (c : Dev nD) (f : (cc0_scratch0 : Ref sig .tc).ty.Contents (Elt F)) :
    recP c Finset.univ f = all fun j => recP (F := F) c (rRecv j).set f := by
  rw [← recv_eq]; unfold recP
  exact pointsTo_biUnion _ _ fun j _ j' _ h => rRecv_disjoint h

omit [FloatOps F] in
theorem outP_blk (c d : Dev nD) (b : Fin 4) (f : (cc0_stg2_0 : Ref sig .tc).ty.Contents (Elt F)) :
    outP c (rBlk d b).set f = blk b fun j => outP (F := F) c (rOwn d j).set f := by
  rw [← blk_eq]; exact outP_pieces c _ _ (fun j _ j' _ h => rOwn_disjoint d h) f

omit [FloatOps F] in
theorem outP_half (c d : Dev nD) (f : (cc0_stg2_0 : Ref sig .tc).ty.Contents (Elt F)) :
    outP c (half d) f = all fun j => outP (F := F) c (rOwn d j).set f :=
  outP_pieces c _ _ (fun j _ j' _ h => rOwn_disjoint d h) f

omit [FloatOps F] in
theorem outP_halves (c : Dev nD) (f : (cc0_stg2_0 : Ref sig .tc).ty.Contents (Elt F)) :
    outP c Finset.univ f ⊣⊢ iprop(outP (F := F) c (half c) f ∗ outP c (half (yn c)) f) := by
  rw [← halves c]; unfold outP; exact pointsTo_union (halves_disjoint c)

omit [FloatOps F] in
/-- An output buffer splits into the blocks of its device's half and the chunks of the other. -/
theorem out_split (c : Dev nD) :
    outQ (F := F) c Finset.univ ⊢ iprop((bigSep Finset.univ fun b : Fin 4 => outQ (F := F) c (rBlk c b).set)
      ∗ all fun j => outQ (F := F) c (rOwn (yn c) j).set) := by
  unfold outQ
  iintro ⟨%f, H⟩
  ihave H' := (outP_halves c f).1 $$ H
  icases H' with ⟨H1, H2⟩
  isplitl [H1]
  · ihave H := (Entails.of_eq ((congrArg (fun S => outP (F := F) c S f) (half_blks c)).trans
      (outP_pieces c _ _ (fun b _ b' _ h => rBlk_disjoint c h) f))) $$ H1
    iapply (pieces_mono fun b => exists_intro (Φ := fun f => outP (F := F) c (rBlk c b).set f) f) $$ H
  · ihave H := (Entails.of_eq (outP_half c (yn c) f)) $$ H2
    iapply (pieces_mono fun j => exists_intro (Φ := fun f => outP (F := F) c (rOwn (yn c) j).set f) f) $$ H

omit [FloatOps F] in
/-- A receive buffer splits into its chunks. -/
theorem rec_split (c : Dev nD) : recQ (F := F) c Finset.univ ⊢ all fun j => recQ (F := F) c (rRecv j).set := by
  unfold recQ
  iintro ⟨%f, H⟩
  ihave H := (Entails.of_eq (recP_pieces c f)) $$ H
  iapply (pieces_mono fun j => exists_intro (Φ := fun f => recP (F := F) c (rRecv j).set f) f) $$ H

/-- The sums of both halves are a device's output. -/
theorem out_join (c : Dev nD) :
    iprop((all fun j => outP c (rOwn c j).set (total m ρ c)) ∗ all fun j => outP c (rOwn (yn c) j).set (total m ρ (yn c)))
      ⊢ outP c Finset.univ (out m ρ c) := by
  have h1 : outP c (half c) (out m ρ c) = outP c (half c) (total m ρ c) := by
    unfold outP; exact pointsTo_congr fun i hi => if_pos (mem_half.mp hi)
  have h2 : outP c (half (yn c)) (out m ρ c) = outP c (half (yn c)) (total m ρ (yn c)) := by
    unfold outP; exact pointsTo_congr fun i hi => if_neg (by have := mem_half.mp hi; rw [yn_mod] at this; omega)
  rw [← outP_half c c, ← outP_half c (yn c), ← h1, ← h2]
  exact (outP_halves c _).2

/-! ## Lists of steps -/

section
variable (K : Dev nD × Cell → ℕ) (c : Dev nD)

/-- Starting a block's eight transfers. -/
theorem run_xChain (b : Fin 4) (k : Pgm F) (Q : PUnit → sProp 𝕄) (O : CellTallies nD τ sig Unit) :
    iprop(facts m ρ K
        ∗ (blk b fun j => iprop(outP c (rOwn c j).set (part m ρ c) ∗ recQ (F := F) (xn c) (rRecv j).set
            ∗ dutyTok ER (dcell c 0 j) 0 false ∗ dutyTok ER (dcell (xn c) 1 j) 0 false))
        ∗ owing c (oweX c (chunksOf b).toFinset + O))
      ⊢ iprop((((blk b fun j => cred (tallyAt (dcell c 0 j) () N)) ∗ owing c O) -∗ run c k Q)
          -∗ run c (chain (xStep oM sM cc0_scratch1 cc0_scratch2 c) (chunksOf b) k) Q) := by
  have h := run_chain c (xStep oM sM cc0_scratch1 cc0_scratch2 c) (facts m ρ K)
    (fun j => iprop(outP c (rOwn c j).set (part m ρ c) ∗ recQ (F := F) (xn c) (rRecv j).set
            ∗ dutyTok ER (dcell c 0 j) 0 false ∗ dutyTok ER (dcell (xn c) 1 j) 0 false))
    (fun j => cred (tallyAt (dcell c 0 j) () N)) (fun S => owing c (oweX c S + O)) Q
    (fun j S k hj => by
      iintro ⟨#HR, ⟨H1, H2, H3, H4⟩, HO⟩
      iapply (run_xStep m ρ K c j k Q (oweX c S + O))
      isplitr; · iexact HR
      isplitl [H1]; · iexact H1
      isplitl [H2]; · iexact H2
      isplitl [H3]; · iexact H3
      isplitl [H4]; · iexact H4
      rw [oweX_insert c hj, add_right_comm]; iexact HO)
    (chunksOf b) (chunksOf_nodup b) k
  rwa [oweX_empty, zero_add] at h

/-- A block of the partial product and its eight transfers. -/
theorem run_blockStep (b : Fin 4) (k : Pgm F) (Q : PUnit → sProp 𝕄) (O : CellTallies nD τ sig Unit) :
    iprop(facts m ρ K ∗ aP m ρ c ∗ bP m ρ c ∗ outQ (F := F) c (rBlk c b).set
        ∗ (blk b fun j => recQ (F := F) (xn c) (rRecv j).set)
        ∗ (blk b fun j => dutyTok ER (dcell c 0 j) 0 false) ∗ (blk b fun j => dutyTok ER (dcell (xn c) 1 j) 0 false)
        ∗ owing c (oweX c (chunksOf b).toFinset + O))
      ⊢ iprop(((aP m ρ c ∗ bP m ρ c ∗ (blk b fun j => cred (tallyAt (dcell c 0 j) () N)) ∗ owing c O) -∗ run c k Q)
          -∗ run c (blockStep aM bM oM sM cc0_scratch1 cc0_scratch2 c b k) Q) := by
  unfold blockStep
  iintro ⟨#HR, Ha, Hb, Ho, Hr, Ht, Ht', HO⟩ Hk
  iapply (run_dotStep m ρ c b _ Q) $$ [Ha Hb Ho]
  · isplitl [Ha]; · iexact Ha
    isplitl [Hb] <;> iassumption
  iintro ⟨Ha, Hb, Ho⟩
  ihave Ho := (Entails.of_eq (outP_blk c c b (part m ρ c))) $$ Ho
  iapply (run_xChain m ρ K c b k Q O) $$ [Ho Hr Ht Ht' HO]
  · isplitr; · iexact HR
    isplitl [Ho Hr Ht Ht']
    · simp only [blk, bigSep_sep']
      isplitl [Ho]; · iexact Ho
      isplitl [Hr]; · iexact Hr
      isplitl [Ht] <;> iassumption
    iexact HO
  iintro ⟨Hc, HO⟩
  iapply Hk
  isplitl [Ha]; · iexact Ha
  isplitl [Hb]; · iexact Hb
  isplitl [Hc] <;> iassumption

/-- All sums. -/
theorem run_sumChain (k : Pgm F) (Q : PUnit → sProp 𝕄) :
    iprop(facts m ρ K
        ∗ ((all fun j => cred (tallyAt (dcell c 0 j) () N)) ∗ (all fun j => cred (tallyAt (dcell c 1 j) () N))
          ∗ (all fun j => atPos ER (dcell c 0 j) 0 ∅ 0) ∗ (all fun j => atPos ER (dcell c 1 j) 0 ∅ 0)
          ∗ (all fun j => outQ (F := F) (yn c) (rOwn c j).set)
          ∗ (all fun j => dutyTok ER (dcell c 2 j) 0 false) ∗ (all fun j => dutyTok ER (dcell (yn c) 3 j) 0 false))
        ∗ owing c (oweY c Finset.univ))
      ⊢ iprop(((((all fun j => semVal (dcell c 0 j) 0) ∗ (all fun j => semVal (dcell c 1 j) 0)
              ∗ (all fun j => recP c (rRecv j).set (recvd m ρ c)) ∗ (all fun j => cred (tallyAt (dcell c 2 j) () N))) ∗ owing c 0) -∗ run c k Q)
          -∗ run c (chain (sumStep oM sM cc0_scratch1 cc0_scratch2 cc0_scratch3 cc0_scratch4 c) chunks k) Q) := by
  have h := run_chain c (sumStep oM sM cc0_scratch1 cc0_scratch2 cc0_scratch3 cc0_scratch4 c) (facts m ρ K)
    (fun j => iprop(cred (tallyAt (dcell c 0 j) () N) ∗ cred (tallyAt (dcell c 1 j) () N)
        ∗ atPos ER (dcell c 0 j) 0 ∅ 0 ∗ atPos ER (dcell c 1 j) 0 ∅ 0
        ∗ outQ (F := F) (yn c) (rOwn c j).set ∗ dutyTok ER (dcell c 2 j) 0 false ∗ dutyTok ER (dcell (yn c) 3 j) 0 false))
    (fun j => iprop(semVal (dcell c 0 j) 0 ∗ semVal (dcell c 1 j) 0 ∗ recP c (rRecv j).set (recvd m ρ c)
              ∗ cred (tallyAt (dcell c 2 j) () N))) (fun S => owing c (oweY c S)) Q
    (fun j S k hj => by
      iintro ⟨#HR, ⟨H1, H2, H3, H4, H5, H6, H7⟩, HO⟩ Hk
      iapply (run_sumStep m ρ K c j k Q S hj) $$ [H1 H2 H3 H4 H5 H6 H7 HO]
      · isplitr; · iexact HR
        isplitl [H1]; · iexact H1
        isplitl [H2]; · iexact H2
        isplitl [H3]; · iexact H3
        isplitl [H4]; · iexact H4
        isplitl [H5]; · iexact H5
        isplitl [H6]; · iexact H6
        isplitl [H7] <;> iassumption
      iintro ⟨H1, H2, H3, H4, HO⟩
      iapply Hk
      isplitl [H1 H2 H3 H4]
      · isplitl [H1]; · iexact H1
        isplitl [H2]; · iexact H2
        isplitl [H3] <;> iassumption
      iexact HO)
    chunks chunks_nodup k
  rw [oweY_empty, chunks_univ] at h
  simpa only [bigSep_sep'] using h

/-- All ends. -/
theorem run_endChain (k : Pgm F) (Q : PUnit → sProp 𝕄) :
    iprop(facts m ρ K
        ∗ ((all fun j => cred (tallyAt (dcell c 2 j) () N)) ∗ (all fun j => cred (tallyAt (dcell c 3 j) () N))
          ∗ (all fun j => atPos ER (dcell c 2 j) 0 ∅ 0) ∗ (all fun j => atPos ER (dcell c 3 j) 0 ∅ 0))
        ∗ owing c 0)
      ⊢ iprop(((((all fun j => semVal (dcell c 2 j) 0) ∗ (all fun j => semVal (dcell c 3 j) 0)
              ∗ (all fun j => outP c (rOwn c j).set (total m ρ c)) ∗ (all fun j => outP c (rOwn (yn c) j).set (total m ρ (yn c)))) ∗ owing c 0) -∗ run c k Q)
          -∗ run c (chain (endStep oM cc0_scratch3 cc0_scratch4 c) chunks k) Q) := by
  have h := run_chain c (endStep oM cc0_scratch3 cc0_scratch4 c) (facts m ρ K)
    (fun j => iprop(cred (tallyAt (dcell c 2 j) () N) ∗ cred (tallyAt (dcell c 3 j) () N)
        ∗ atPos ER (dcell c 2 j) 0 ∅ 0 ∗ atPos ER (dcell c 3 j) 0 ∅ 0))
    (fun j => iprop(semVal (dcell c 2 j) 0 ∗ semVal (dcell c 3 j) 0 ∗ outP c (rOwn c j).set (total m ρ c)
              ∗ outP c (rOwn (yn c) j).set (total m ρ (yn c)))) (fun _ => owing c 0) Q
    (fun j S k hj => by
      iintro ⟨#HR, ⟨H1, H2, H3, H4⟩, HO⟩ Hk
      iapply (run_endStep m ρ K c j k Q) $$ [H1 H2 H3 H4 HO]
      · isplitr; · iexact HR
        isplitl [H1]; · iexact H1
        isplitl [H2]; · iexact H2
        isplitl [H3]; · iexact H3
        isplitl [H4] <;> iassumption
      iintro ⟨H1, H2, H3, H4, HO⟩
      iapply Hk
      isplitl [H1 H2 H3 H4]
      · isplitl [H1]; · iexact H1
        isplitl [H2]; · iexact H2
        isplitl [H3] <;> iassumption
      iexact HO)
    chunks chunks_nodup k
  rw [chunks_univ] at h
  simpa only [bigSep_sep'] using h

/-! ## The meeting -/

/-- Telling the first neighbour that this device's receive buffer may be written. -/
theorem run_meet_x (k : Pgm F) (Q : PUnit → sProp 𝕄) (O : CellTallies nD τ sig Unit) :
    iprop(facts m ρ K ∗ dutyTok ER (bar (xn c)) 0 false ∗ (all fun j => recQ (F := F) c (rRecv j).set)
        ∗ owing c (O + tallyAt (bar (xn c)) () 1))
      ⊢ iprop((owing c O -∗ run c k Q) -∗ run c (.op (.semSignal (xn c, .tc) barSem (1 : ℕ)) fun _ => k) Q) := by
  unfold owing
  iintro ⟨#HR, Ht, Hr, ⟨%W, HO⟩⟩ Hk
  ihave #HI := (facts_inv m ρ K (xn c, none)) $$ HR
  ihave #Hr' := (facts_reached m ρ K (xn c, none)) $$ HR
  iapply (Rounds.wp_signal 𝒱₀ ER (sched m ρ) (c : Thread nD τ) none (dst := (xn c : Thread nD τ)) (κ := K (xn c, none))
      (d := false) (by rw [duties_bar]; exact Finset.mem_univ _) (amount_bar m ρ (xn c) false) () O rfl) $$ [HO Ht Hr]
  · isplitr; · iexact HI
    isplitl [HO]; · iexact HO
    isplitl [Ht]; · iexact Ht
    isplitl [Hr]
    · rw [payload_bar]; unfold barPay; rw [if_neg Bool.false_ne_true, xn_xn]; iexact Hr
    iexact Hr'
  iintro HO
  iapply Hk
  iexists W; iexact HO

/-- Telling the second neighbour that the other half of this device's output may be written. -/
theorem run_meet_y (k : Pgm F) (Q : PUnit → sProp 𝕄) (O : CellTallies nD τ sig Unit) :
    iprop(facts m ρ K ∗ dutyTok ER (bar (yn c)) 0 true ∗ (all fun j => outQ (F := F) c (rOwn (yn c) j).set)
        ∗ owing c (O + tallyAt (bar (yn c)) () 1))
      ⊢ iprop((owing c O -∗ run c k Q) -∗ run c (.op (.semSignal (yn c, .tc) barSem (1 : ℕ)) fun _ => k) Q) := by
  unfold owing
  iintro ⟨#HR, Ht, Hr, ⟨%W, HO⟩⟩ Hk
  ihave #HI := (facts_inv m ρ K (yn c, none)) $$ HR
  ihave #Hr' := (facts_reached m ρ K (yn c, none)) $$ HR
  iapply (Rounds.wp_signal 𝒱₀ ER (sched m ρ) (c : Thread nD τ) none (dst := (yn c : Thread nD τ)) (κ := K (yn c, none))
      (d := true) (by rw [duties_bar]; exact Finset.mem_univ _) (amount_bar m ρ (yn c) true) () O rfl) $$ [HO Ht Hr]
  · isplitr; · iexact HI
    isplitl [HO]; · iexact HO
    isplitl [Ht]; · iexact Ht
    isplitl [Hr]
    · rw [payload_bar]; unfold barPay; rw [if_pos rfl, yn_yn]; iexact Hr
    iexact Hr'
  iintro HO
  iapply Hk
  iexists W; iexact HO

/-- Waiting for both neighbours: their buffers may be written. -/
theorem run_meet_wait (k : Pgm F) (Q : PUnit → sProp 𝕄) :
    iprop(facts m ρ K ∗ cred (tallyAt (bar c) () 2) ∗ atPos ER (bar c) 0 ∅ 0 ∗ owing c (owe₁ c))
      ⊢ iprop(((semVal (bar c) 0 ∗ (all fun j => recQ (F := F) (xn c) (rRecv j).set)
              ∗ (all fun j => outQ (F := F) (yn c) (rOwn c j).set) ∗ owing c (owe₁ c)) -∗ run c k Q)
          -∗ run c (.op (.semWait barSem (2 : ℕ)) fun _ => k) Q) := by
  unfold owing
  iintro ⟨#HR, Hc, Hat, ⟨%W, HO⟩⟩ Hk
  ihave #HI := (facts_inv m ρ K (c, none)) $$ HR
  ihave #Hlev := (facts_lev m ρ K) $$ HR
  iapply (Rounds.wp_wait_rest_token 𝒱₀ ER (sched m ρ) (c : Thread nD τ) none (κ := K (c, none))
      (wpE_semWait_eq 𝒱₀ (c : Thread nD τ) none Set.univ) (Set.mem_univ _) () (O := owe₁ c) (W := W) (R := 0) (m := 0) (T := ∅)
      ((Nat.zero_add _).trans (expect_bar m ρ c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, none))) (fun h => h) (R := 0 + 1) (duties_later m ρ (bar c))) $$ [Hat] with Hz
  · isplitr; · iexact HI
    iexact Hat
  unfold barPay
  rw [if_neg Bool.false_ne_true, if_pos rfl]
  icases Hp with ⟨Hx, Hy⟩
  iapply Hk
  isplitl [Hz]; · iexact Hz
  isplitl [Hx]; · iexact Hx
  isplitl [Hy]; · iexact Hy
  iexists _; iexact HO

end

/-! ## The whole body -/

/-- Device `c`'s positions in its cells' rounds. -/
def places (c : Dev nD) : sProp 𝕄 :=
  iprop(atPos ER (bar c) 0 ∅ 0 ∗ (all fun j => atPos ER (dcell c 0 j) 0 ∅ 0) ∗ (all fun j => atPos ER (dcell c 1 j) 0 ∅ 0)
      ∗ (all fun j => atPos ER (dcell c 2 j) 0 ∅ 0) ∗ (all fun j => atPos ER (dcell c 3 j) 0 ∅ 0))

/-- The duties it is to pay: its neighbours' meeting points', both ends of its transfers'. -/
def duties (c : Dev nD) : sProp 𝕄 :=
  iprop(dutyTok ER (bar (xn c)) 0 false ∗ dutyTok ER (bar (yn c)) 0 true
      ∗ (all fun j => dutyTok ER (dcell c 0 j) 0 false) ∗ (all fun j => dutyTok ER (dcell (xn c) 1 j) 0 false)
      ∗ (all fun j => dutyTok ER (dcell c 2 j) 0 false) ∗ (all fun j => dutyTok ER (dcell (yn c) 3 j) 0 false))

/-- The ghost state device `c` starts from, at names `K`. -/
def ghost (K : Dev nD × Cell → ℕ) (c : Dev nD) : sProp 𝕄 := iprop(facts m ρ K ∗ places c ∗ duties c)

/-- The credits for what the others will pay on its cells. -/
def credits (c : Dev nD) : sProp 𝕄 :=
  iprop(cred (tallyAt (bar c) () 2) ∗ (all fun j => cred (tallyAt (dcell c 1 j) () N)) ∗ (all fun j => cred (tallyAt (dcell c 3 j) () N)))

/-- What the body leaves of the kernel's own things: the receive buffer, every cell closed. -/
def leftover (c : Dev nD) : sProp 𝕄 :=
  iprop(recP c Finset.univ (recvd m ρ c) ∗ semVal (bar c) 0
    ∗ (all fun j => semVal (dcell c 0 j) 0) ∗ (all fun j => semVal (dcell c 1 j) 0)
    ∗ (all fun j => semVal (dcell c 2 j) 0) ∗ (all fun j => semVal (dcell c 3 j) 0))

theorem run_body (K : Dev nD × Cell → ℕ) (c : Dev nD) (Q : PUnit → sProp 𝕄) :
    iprop(ghost m ρ K c ∗ credits c ∗ recQ (F := F) c Finset.univ ∗ aP m ρ c ∗ bP m ρ c ∗ outQ (F := F) c Finset.univ ∗ owing c (owe₀ c))
      ⊢ iprop(((leftover m ρ c ∗ aP m ρ c ∗ bP m ρ c ∗ outP c Finset.univ (out m ρ c) ∗ owing c 0) -∗ Q ⟨⟩)
          -∗ run c (body aM bM oM sM cc0_scratch1 cc0_scratch2 cc0_scratch3 cc0_scratch4) Q) := by
  unfold body ghost places duties credits
  simp only [run, wp_deviceId]
  iintro ⟨⟨#HR, ⟨Hab, Ha0, Ha1, Ha2, Ha3⟩, Htx, Hty, Ht0, Ht1, Ht2, Ht3⟩, ⟨Hcb, Hc1, Hc3⟩, Hrec, HA, HB, Hout, HO⟩ Hk
  ihave Hrec := (rec_split (F := F) c) $$ Hrec
  ihave Hout := (out_split (F := F) c) $$ Hout
  icases Hout with ⟨Hblk, Hoth⟩
  ihave Hblk := (Entails.of_eq (four fun b : Fin 4 => outQ (F := F) c (rBlk c b).set)) $$ Hblk
  icases Hblk with ⟨Hb0, Hb1, Hb2, Hb3⟩
  -- the meeting, around the first block
  iapply (run_meet_x m ρ K c _ Q (owe₁ c + tallyAt (bar (yn c)) () 1)) $$ [Htx Hrec HO]
  · isplitr; · iexact HR
    isplitl [Htx]; · iexact Htx
    isplitl [Hrec]; · iexact Hrec
    iexact HO
  iintro HO
  iapply (run_meet_y m ρ K c _ Q (owe₁ c)) $$ [Hty Hoth HO]
  · isplitr; · iexact HR
    isplitl [Hty]; · iexact Hty
    isplitl [Hoth]; · iexact Hoth
    iexact HO
  iintro HO
  iapply (run_dotStep m ρ c 0 _ Q) $$ [HA HB Hb0]
  · isplitl [HA]; · iexact HA
    isplitl [HB] <;> iassumption
  iintro ⟨HA, HB, Hb0⟩
  iapply (run_meet_wait m ρ K c _ Q) $$ [Hcb Hab HO]
  · isplitr; · iexact HR
    isplitl [Hcb]; · iexact Hcb
    isplitl [Hab] <;> iassumption
  iintro ⟨Hzb, Hx, Hy, HO⟩
  -- the four blocks
  rw [owe₁_blocks]
  ihave Hb0 := (Entails.of_eq (outP_blk c c 0 (part m ρ c))) $$ Hb0
  ihave Hx := (Entails.of_eq (all_blocks fun j => recQ (F := F) (xn c) (rRecv j).set)) $$ Hx
  ihave Ht0 := (Entails.of_eq (all_blocks (F := F) fun j => dutyTok ER (dcell c 0 j) 0 false)) $$ Ht0
  ihave Ht1 := (Entails.of_eq (all_blocks (F := F) fun j => dutyTok ER (dcell (xn c) 1 j) 0 false)) $$ Ht1
  icases Hx with ⟨Hx0, Hx1, Hx2, Hx3⟩
  icases Ht0 with ⟨Ht00, Ht01, Ht02, Ht03⟩
  icases Ht1 with ⟨Ht10, Ht11, Ht12, Ht13⟩
  iapply (run_xChain m ρ K c 0 _ Q _) $$ [Hb0 Hx0 Ht00 Ht10 HO]
  · isplitr; · iexact HR
    isplitr [HO]
    · simp only [blk, bigSep_sep']
      isplitl [Hb0]; · iexact Hb0
      isplitl [Hx0]; · iexact Hx0
      isplitl [Ht00] <;> iassumption
    iexact HO
  iintro ⟨Hd0, HO⟩
  iapply (run_blockStep m ρ K c 1 _ Q _) $$ [HA HB Hb1 Hx1 Ht01 Ht11 HO]
  · isplitr; · iexact HR
    isplitl [HA]; · iexact HA
    isplitl [HB]; · iexact HB
    isplitl [Hb1]; · iexact Hb1
    isplitl [Hx1]; · iexact Hx1
    isplitl [Ht01]; · iexact Ht01
    isplitl [Ht11] <;> iassumption
  iintro ⟨HA, HB, Hd1, HO⟩
  iapply (run_blockStep m ρ K c 2 _ Q _) $$ [HA HB Hb2 Hx2 Ht02 Ht12 HO]
  · isplitr; · iexact HR
    isplitl [HA]; · iexact HA
    isplitl [HB]; · iexact HB
    isplitl [Hb2]; · iexact Hb2
    isplitl [Hx2]; · iexact Hx2
    isplitl [Ht02]; · iexact Ht02
    isplitl [Ht12] <;> iassumption
  iintro ⟨HA, HB, Hd2, HO⟩
  iapply (run_blockStep m ρ K c 3 _ Q _) $$ [HA HB Hb3 Hx3 Ht03 Ht13 HO]
  · isplitr; · iexact HR
    isplitl [HA]; · iexact HA
    isplitl [HB]; · iexact HB
    isplitl [Hb3]; · iexact Hb3
    isplitl [Hx3]; · iexact Hx3
    isplitl [Ht03]; · iexact Ht03
    isplitl [Ht13] <;> iassumption
  iintro ⟨HA, HB, Hd3, HO⟩
  -- the sums and the ends
  ihave Hd := (Entails.of_eq (all_blocks (F := F) fun j => cred (tallyAt (dcell c 0 j) () N)).symm) $$ [Hd0 Hd1 Hd2 Hd3]
  · isplitl [Hd0]; · iexact Hd0
    isplitl [Hd1]; · iexact Hd1
    isplitl [Hd2] <;> iassumption
  iapply (run_sumChain m ρ K c _ Q) $$ [Hd Hc1 Ha0 Ha1 Hy Ht2 Ht3 HO]
  · isplitr; · iexact HR
    isplitr [HO]
    · isplitl [Hd]; · iexact Hd
      isplitl [Hc1]; · iexact Hc1
      isplitl [Ha0]; · iexact Ha0
      isplitl [Ha1]; · iexact Ha1
      isplitl [Hy]; · iexact Hy
      isplitl [Ht2] <;> iassumption
    iexact HO
  iintro ⟨⟨Hz0, Hz1, Hrec, Hc2⟩, HO⟩
  iapply (run_endChain m ρ K c _ Q) $$ [Hc2 Hc3 Ha2 Ha3 HO]
  · isplitr; · iexact HR
    isplitr [HO]
    · isplitl [Hc2]; · iexact Hc2
      isplitl [Hc3]; · iexact Hc3
      isplitl [Ha2] <;> iassumption
    iexact HO
  iintro ⟨⟨Hz2, Hz3, Hown, Hoth⟩, HO⟩
  ihave Hrec := (Entails.of_eq (recP_pieces c (recvd m ρ c)).symm) $$ Hrec
  ihave Hout := (out_join m ρ c) $$ [Hown Hoth]
  · isplitl [Hown] <;> iassumption
  simp only [run]
  rw [wp_ret]; imodintro
  iapply Hk
  unfold leftover
  isplitl [Hrec Hzb Hz0 Hz1 Hz2 Hz3]
  · isplitl [Hrec]; · iexact Hrec
    isplitl [Hzb]; · iexact Hzb
    isplitl [Hz0]; · iexact Hz0
    isplitl [Hz1]; · iexact Hz1
    isplitl [Hz2] <;> iassumption
  isplitl [HA]; · iexact HA
  isplitl [HB]; · iexact HB
  isplitl [Hout] <;> iassumption

end Cert.KernelIdeal.Steps
-- ==== Proof.Run.lean ====
/- The launch of the kernel on the four devices: the body's run put into the pipeline, the ghost
   state dealt to the devices, the credits they start with, and the run of the whole program. -/
module

public import proofs.«01_k».proof.Proof.Body
public import proofs.«01_k».proof.Proof.Gen.KernelIdeal.Frame
public import Idealize.ShloMosaic.Lib.Pipeline.CollectiveSegs

@[expose] public section

noncomputable section

namespace Cert.KernelIdeal.Steps

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body in the pipeline -/

/-- What device `c` enters the region with beside its buffers. -/
def start (c : Dev nD) : sProp 𝕄 := iprop((∃ K, ghost m ρ K c) ∗ credits c)

/-- The pipeline's data: the arrays as launched, what the body leaves in each window, and what it
    owes before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => lhs m ρ c
    | ⟨1, _⟩ => rhs m ρ c
    | ⟨2, _⟩ => out m ρ c
  Φ t := match t with
    | ⟨0, _⟩ => iprop(start m ρ c ∗ recQ (F := F) c Finset.univ)
    | ⟨_ + 1, _⟩ => leftover m ρ c
  q _ := fullShare
  owed t := match t with
    | ⟨0, _⟩ => owe₀ c
    | ⟨_ + 1, _⟩ => 0

/-- A staging buffer of device `c` at contents `X`. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

omit [FloatOps F] in
/-- The pipeline's way of saying so. -/
theorem owns_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

omit [FloatOps F] in
theorem three_windows (Φ : Fin cfg0.W → sProp 𝕄) :
    bigSep Finset.univ Φ = iprop(Φ (0 : Fin 3) ∗ Φ (1 : Fin 3) ∗ Φ (2 : Fin 3)) := bigSep_W0 Φ

/-- What the pipeline hands the body, -/
def entry (c : Dev nD) : sProp 𝕄 :=
  iprop((start m ρ c ∗ recQ (F := F) c Finset.univ) ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))

/-- and what it takes back. -/
def exit (c : Dev nD) : sProp 𝕄 :=
  iprop(leftover m ρ c ∗ (dats m ρ 0 c).owesAt () t0_0.succ
    ∗ staged c cc0_stg0_0 (lhs m ρ c) ∗ staged c cc0_stg1_0 (rhs m ρ c) ∗ staged c cc0_stg2_0 (out m ρ c))

theorem run_entry (c : Dev nD) :
    entry m ρ c ⊢ run c (body aM bM oM sM cc0_scratch1 cc0_scratch2 cc0_scratch3 cc0_scratch4) fun _ => exit m ρ c := by
  unfold entry start
  iintro ⟨⟨⟨⟨%K, Hg⟩, Hc⟩, Hrec⟩, Ho, ⟨%d0, %g0, %hg0, HA⟩, ⟨%d1, %g1, %hg1, HB⟩, ⟨%d2, %g2, %hg2, Hout⟩⟩
  have h0 : g0 = lhs m ρ c := by rw [hg0]; unfold Dat.before; rw [if_pos (fetch0_0 t0_0)]; rfl
  have h1 : g1 = rhs m ρ c := by rw [hg1]; unfold Dat.before; rw [if_pos (fetch0_1 t0_0)]; rfl
  subst h0 h1
  unfold Dat.owesAt Pipeline.owesWithin
  icases Ho with ⟨%W, %hW, HO⟩
  rw [show (dats m ρ 0 c).owed t0_0.castSucc = owe₀ c from rfl]
  iapply (run_body m ρ K c fun _ => exit m ρ c) $$ [Hg Hc Hrec HA HB Hout HO]
  · isplitl [Hg]; · iexact Hg
    isplitl [Hc]; · iexact Hc
    isplitl [Hrec]; · iexact Hrec
    isplitl [HA]; · unfold aP; iexact HA
    isplitl [HB]; · unfold bP; iexact HB
    isplitl [Hout]; · unfold outQ outP; iexists g2; iexact Hout
    unfold owing; iexists W; iexact HO
  unfold owing
  iintro ⟨Hl, HA, HB, Hout, ⟨%W', HO⟩⟩
  unfold exit Dat.owesAt Pipeline.owesWithin
  rw [show (dats m ρ 0 c).owed t0_0.succ = 0 from rfl]
  isplitl [Hl]; · iexact Hl
  isplitl [HO]
  · iexists W'
    isplitr; · ipureintro; exact fun _ _ => Or.inl trivial
    iexact HO
  isplitl [HA]
  · iexists _; isplitr; · (ipureintro; rfl)
    unfold aP; iexact HA
  isplitl [HB]
  · iexists _; isplitr; · (ipureintro; rfl)
    unfold bP; iexact HB
  iexists _; isplitr; · (ipureintro; rfl)
  unfold outP; iexact Hout

set_option maxRecDepth 65536 in
/-- The body meets the pipeline's obligation on every device. -/
theorem body_obligation (c : Dev nD) : BodyObligation (dats (F := F) m ρ 0 c) (defs₀ (F := F)) 𝒱₀ () Set.univ := fun t => by
  rw [fin_N0 t, three_windows, three_windows]
  simp only [owns_staged]
  show entry m ρ c ⊢ run c (cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    cc0_scratch1 cc0_scratch2 cc0_scratch3 cc0_scratch4) fun _ => exit m ρ c
  rw [cc0_body_eq]
  exact run_entry m ρ c

/-! ## The ghost state -/

omit [FloatOps F] in
/-- A conjunction over an optional index. -/
theorem bigSep_option {α : Type} [Fintype α] [DecidableEq α] (Φ : Option α → sProp 𝕄) :
    bigSep Finset.univ Φ = iprop(Φ none ∗ bigSep Finset.univ fun a => Φ (some a)) := by
  have h : (Finset.univ : Finset (Option α)) = insert none (Finset.univ.map Function.Embedding.some) := by
    ext a; cases a <;> simp
  rw [h, bigSep_insert (by simp), bigSep_map]; rfl

omit [FloatOps F] in
/-- A conjunction over a device's cells: its meeting point and its four tables. -/
theorem all_cells (Φ : Cell → sProp 𝕄) : bigSep Finset.univ Φ
    = iprop(Φ none ∗ (all fun j => Φ (some (0, j))) ∗ (all fun j => Φ (some (1, j))) ∗ (all fun j => Φ (some (2, j))) ∗ (all fun j => Φ (some (3, j)))) := by
  rw [bigSep_option, all_tables]

/-- The kernel's semaphores beside the staging buffers' and the meeting point. -/
abbrev osem (p : Fin 4 × Fin 32) : SemLoc sig := .dma (dsem p.1 p.2)

theorem dsem_injective : Function.Injective fun p : Fin 4 × Fin 32 => dsem p.1 p.2 := by
  rintro ⟨k, j⟩ ⟨k', j'⟩ h
  have hv : 3 + 32 * k.val + j.val = 3 + 32 * k'.val + j'.val := congrArg Fin.val h
  exact Prod.ext (Fin.ext (by show k.val = k'.val; omega)) (Fin.ext (by show j.val = j'.val; omega))

theorem ownSemFacts : Pipeline.OwnSemFacts cfg0.spec osem where
  isScoped := by decide
  inj := fun p q h => dsem_injective (SemLoc.dma.inj h)
  disj := fun p w s h => by
    have hv : 3 + 32 * p.1.val + p.2.val = ((cfg0.spec w).sem s).val := congrArg Fin.val (SemLoc.dma.inj h)
    have hs : ∀ (w : Fin cfg0.W) (s : Fin (cfg0.spec w).nbuf), ((cfg0.spec w).sem s).val < 3 := by decide
    have := hs w s
    omega

theorem share_eq (c : Dev nD) (w : Fin cfg0.W) : (dats m ρ 0 c).share w = fullShare := by unfold Dat.share; split <;> rfl

/-- Every device's cells, -/
def cellSet : Finset (GSem nD τ sig) := Finset.univ.map ⟨kcell, kcell_injective⟩

/-- and the duties of each: one per cell, and the meeting point's second. -/
abbrev tokOf (x : Dev nD × Option Cell) : GSem nD τ sig × ℕ × Bool :=
  match x.2 with
  | none => (bar x.1, 0, true)
  | some k => (kcell (x.1, k), 0, false)

theorem tokOf_injective : Function.Injective tokOf := by
  rintro ⟨c, k⟩ ⟨c', k'⟩ h
  rcases k with _ | k <;> rcases k' with _ | k'
  · have := kcell_injective (congrArg Prod.fst h); obtain rfl : c = c' := congrArg Prod.fst this; rfl
  · exact absurd (congrArg (fun x : GSem nD τ sig × ℕ × Bool => x.2.2) h) Bool.noConfusion
  · exact absurd (congrArg (fun x : GSem nD τ sig × ℕ × Bool => x.2.2) h) Bool.noConfusion
  · have := kcell_injective (congrArg Prod.fst h); obtain rfl : c = c' := congrArg Prod.fst this
    obtain rfl : k = k' := congrArg Prod.snd this; rfl

def tokSet : Finset (GSem nD τ sig × ℕ × Bool) := Finset.univ.map ⟨tokOf, tokOf_injective⟩

/-- The launch's ghost element: the pipeline's part and the exchange's. -/
def u₀ : UU :=
  (initOf (Pipeline.cells cfgs cellOf_inj) (Pipeline.launchToks cfgs cellOf_inj), initOf cellSet tokSet)

/-- The duties of device `c`'s own cells. -/
def toks (c : Dev nD) : sProp 𝕄 :=
  iprop(dutyTok ER (bar c) 0 true ∗ dutyTok ER (bar c) 0 false
    ∗ (all fun j => dutyTok ER (dcell c 0 j) 0 false) ∗ (all fun j => dutyTok ER (dcell c 1 j) 0 false)
    ∗ (all fun j => dutyTok ER (dcell c 2 j) 0 false) ∗ (all fun j => dutyTok ER (dcell c 3 j) 0 false))

/-- What the launch element deals device `c`, -/
def G (c : Dev nD) : sProp 𝕄 :=
  iprop((bigSep Finset.univ fun k : Cell => roundState ER (sched m ρ) (kcell (c, k)) 0)
    ∗ (bigSep Finset.univ fun k : Cell => iprop(atPos ER (kcell (c, k)) 0 ∅ 0 ∗ reached ER (kcell (c, k)) 0)) ∗ toks c)

/-- and what it has once the records are made and the duties dealt to those who pay them. -/
def G' (c : Dev nD) : sProp 𝕄 := iprop(∃ K, records m ρ K ∗ places c ∗ duties c)

theorem fund : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : Cell => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet; rw [bigSep_map, bigSep_univ_prod]
    exact bigSep_congr fun c _ => by unfold toks; rw [bigSep_option, all_cells]; rfl
  iintro HX
  imod (Rounds.fund ER (sched m ρ) cellSet tokSet) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The meeting point is the one semaphore of the program's that is no kernel's own. -/
theorem unscopedSems0_bar (c : Dev nD) : (unscopedSems0 c : sProp 𝕄) = semVal (bar c) 0 := by
  unfold unscopedSems0; rw [bigSep_eq_bigSepL_of_eq [SemLoc.reg barSem] (by decide) (by decide)]; rfl

omit [FloatOps F] in
/-- A device's semaphores at zero, cell by cell. -/
theorem sems0_cells (c : Dev nD) :
    (bigSep Finset.univ fun k : Cell => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_option, unscopedSems0_bar]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cell => iprop(∃ κ : ℕ, cellInv ER (sched m ρ) κ (kcell (c, k))))
          ∗ (bigSep Finset.univ fun k : Cell => iprop(atPos ER (kcell (c, k)) 0 ∅ 0 ∗ reached ER (kcell (c, k)) 0)) ∗ toks c) := by
  unfold G
  iintro ⟨Hos, Hus, Hst, Hat, Htok⟩
  ihave Hv := (Entails.of_eq (sems0_cells (F := F) c).symm) $$ [Hos Hus]
  · isplitl [Hus] <;> iassumption
  imod (show iprop((bigSep Finset.univ fun k : Cell => semVal (kcell (c, k)) 0) ∗ bigSep Finset.univ fun k : Cell => roundState ER (sched m ρ) (kcell (c, k)) 0)
      ⊢ (|={Set.univ}=> bigSep Finset.univ fun k : Cell => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The duties dealt: a neighbour pays the meeting point's and the receiving ends'. -/
theorem toks_dealt : (bigSep Finset.univ fun c : Dev nD => (toks c : sProp 𝕄)) ⊢ bigSep Finset.univ fun c : Dev nD => duties c := by
  unfold toks duties
  simp only [bigSep_sep']
  rw [bigSep_univ_equiv xSwap (fun c : Dev nD => (dutyTok ER (bar c) 0 false : sProp 𝕄)),
    bigSep_univ_equiv ySwap (fun c : Dev nD => (dutyTok ER (bar c) 0 true : sProp 𝕄)),
    bigSep_univ_equiv xSwap (fun c : Dev nD => (all fun j => dutyTok ER (dcell c 1 j) 0 false : sProp 𝕄)),
    bigSep_univ_equiv ySwap (fun c : Dev nD => (all fun j => dutyTok ER (dcell c 3 j) 0 false : sProp 𝕄))]
  iintro ⟨Ht, Hf, H0, H1, H2, H3⟩
  isplitl [Hf]; · iexact Hf
  isplitl [Ht]; · iexact Ht
  isplitl [H0]; · iexact H0
  isplitl [H1]; · iexact H1
  isplitl [H2]; · iexact H2
  iexact H3

omit [FloatOps F] in
/-- A lasting fact beside a conjunction goes into each conjunct. -/
theorem beside_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cell => iprop(∃ κ : ℕ, cellInv ER (sched m ρ) κ (kcell (c, k))))
          ∗ (bigSep Finset.univ fun k : Cell => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cell => iprop(∃ κ : ℕ, cellInv ER (sched m ρ) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (sched m ρ) κ (kcell ck) : sProp 𝕄))) $$ HI
  icases HK with ⟨%K, #HI⟩
  ihave Htk := (toks_dealt (F := F)) $$ Htok
  iapply (beside_each (R := records m ρ K) (Φ := fun c => iprop(places (F := F) c ∗ duties c)) (Ψ := G' m ρ) fun c _ => show _ ⊢ G' m ρ c from by
    unfold G'
    iintro H
    iexists K; iexact H)
  isplitr
  · unfold records; rw [bigSep_sep']
    isplitl; · iexact HI
    iexact HR
  · rw [bigSep_sep']
    isplitl [Hat]
    · iapply (Entails.of_eq (bigSep_congr (s := Finset.univ) fun (c : Dev nD) _ => show (bigSep Finset.univ fun k : Cell => (atPos ER (kcell (c, k)) 0 ∅ 0 : sProp 𝕄)) = places c from all_cells _))
      iexact Hat
    iexact Htk

/-- All devices' semaphores and dealings at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

/-- One debt read at one cell. -/
theorem debt_at (d c : Dev nD) (f : Dev nD → Dev nD) (hf : ∀ a, f (f a) = a) (k k' : Cell) (n : ℕ) :
    tallyAt (kcell (f d, k')) () n (kcell (c, k)) () = if d = f c ∧ k = k' then n else 0 := by
  rw [tallyAt_apply]
  refine if_congr ⟨fun h => ?_, fun h => ?_⟩ rfl rfl
  · have h' := kcell_injective h.1
    have hc : c = f d := congrArg Prod.fst h'
    exact ⟨by rw [hc, hf], congrArg Prod.snd h'⟩
  · obtain ⟨rfl, rfl⟩ := h; rw [hf]; exact ⟨rfl, rfl⟩

/-- A table's debts read at one of its cells. -/
theorem debts_at (d c : Dev nD) (f : Dev nD → Dev nD) (hf : ∀ a, f (f a) = a) (q : Fin 4) (j : Fin 32) :
    (∑ i : Fin 32, tallyAt (dcell (f d) q i) () N : CellTallies nD τ sig Unit) (dcell c q j) () = if d = f c then N else 0 := by
  rw [Finset.sum_apply, Finsupp.finset_sum_apply, Finset.sum_eq_single j]
  · rw [debt_at d c f hf]; exact if_congr ⟨fun h => h.1, fun h => ⟨h, rfl⟩⟩ rfl rfl
  · intro i _ hi
    rw [debt_at d c f hf]
    exact if_neg fun h => hi (congrArg Prod.snd (Option.some.inj h.2)).symm
  · exact fun h => absurd (Finset.mem_univ _) h

theorem oweX_zero (d c : Dev nD) (k : Cell) (hk : ∀ j, k ≠ some (1, j)) : oweX d Finset.univ (kcell (c, k)) () = 0 :=
  Nat.eq_zero_of_not_pos fun h => by
    obtain ⟨j, hj⟩ := oweX_pos h
    exact hk j (congrArg Prod.snd (kcell_injective hj))
theorem oweY_zero (d c : Dev nD) (k : Cell) (hk : ∀ j, k ≠ some (3, j)) : oweY d Finset.univ (kcell (c, k)) () = 0 :=
  Nat.eq_zero_of_not_pos fun h => by
    obtain ⟨j, hj⟩ := oweY_pos h
    exact hk j (congrArg Prod.snd (kcell_injective hj))

/-- What device `d` owes at launch, read at a cell. -/
theorem owe₀_at (d c : Dev nD) (k : Cell) : owe₀ d (kcell (c, k)) ()
    = oweX d Finset.univ (kcell (c, k)) () + oweY d Finset.univ (kcell (c, k)) ()
      + (if d = yn c ∧ k = none then 1 else 0) + (if d = xn c ∧ k = none then 1 else 0) := by
  rw [← debt_at d c yn yn_yn k none 1, ← debt_at d c xn xn_xn k none 1]; rfl

theorem owed_bar (d c : Dev nD) : owe₀ d (bar c) () = (if d = yn c then 1 else 0) + (if d = xn c then 1 else 0) := by
  rw [owe₀_at, oweX_zero d c none (fun j h => Option.some_ne_none _ h.symm), oweY_zero d c none (fun j h => Option.some_ne_none _ h.symm), Nat.add_zero, Nat.zero_add]
  simp only [and_true]
theorem owed_x (d c : Dev nD) (j : Fin 32) : owe₀ d (dcell c 1 j) () = if d = xn c then N else 0 := by
  rw [owe₀_at, oweY_zero d c (some (1, j)) (fun i h => absurd (congrArg Prod.fst (Option.some.inj h)) (show (1 : Fin 4) ≠ 3 by decide)), if_neg (fun h => Option.some_ne_none _ h.2), if_neg (fun h => Option.some_ne_none _ h.2)]
  unfold oweX; rw [debts_at d c xn xn_xn 1 j]; simp only [Nat.add_zero]
theorem owed_y (d c : Dev nD) (j : Fin 32) : owe₀ d (dcell c 3 j) () = if d = yn c then N else 0 := by
  rw [owe₀_at, oweX_zero d c (some (3, j)) (fun i h => absurd (congrArg Prod.fst (Option.some.inj h)) (show (3 : Fin 4) ≠ 1 by decide)), if_neg (fun h => Option.some_ne_none _ h.2), if_neg (fun h => Option.some_ne_none _ h.2), Nat.zero_add]
  unfold oweY; rw [debts_at d c yn yn_yn 3 j]; simp only [Nat.add_zero]

/-- A cell's launch credit, where it is known what each device owes there. -/
theorem launch_at (g : GSem nD τ sig) (n : ℕ) (h : ∑ d : Dev nD, owe₀ d g () = n) :
    tallyOn g (launchCredit (Pipeline.owing owe₀) 0 g) = (tallyAt g () n : CellTallies nD τ sig Unit) := by
  unfold tallyAt; refine congrArg _ (Finsupp.ext fun u => ?_); cases u
  rw [Pipeline.launchCredit_owing, Finsupp.single_eq_same, h]

/-- A debt of one device is that much in all. -/
theorem sum_one (e : Dev nD) (n : ℕ) : (∑ d : Dev nD, if d = e then n else 0) = n := by
  rw [Finset.sum_ite_eq' Finset.univ e fun _ => n, if_pos (Finset.mem_univ _)]

theorem launch_bar (c : Dev nD) :
    tallyOn (bar c) (launchCredit (Pipeline.owing owe₀) 0 (bar c)) = (tallyAt (bar c) () 2 : CellTallies nD τ sig Unit) :=
  launch_at _ _ (by simp only [owed_bar, Finset.sum_add_distrib, sum_one])
theorem launch_x (c : Dev nD) (j : Fin 32) :
    tallyOn (dcell c 1 j) (launchCredit (Pipeline.owing owe₀) 0 (dcell c 1 j)) = (tallyAt (dcell c 1 j) () N : CellTallies nD τ sig Unit) :=
  launch_at _ _ (by simp only [owed_x, sum_one])
theorem launch_y (c : Dev nD) (j : Fin 32) :
    tallyOn (dcell c 3 j) (launchCredit (Pipeline.owing owe₀) 0 (dcell c 3 j)) = (tallyAt (dcell c 3 j) () N : CellTallies nD τ sig Unit) :=
  launch_at _ _ (by simp only [owed_y, sum_one])

omit [FloatOps F] in
/-- The credits a device starts with. -/
theorem creds (c : Dev nD) : (Pipeline.launchCred owe₀ c : sProp 𝕄) ⊢ credits c := by
  unfold Pipeline.launchCred credits
  refine (bigSep_subset (Finset.subset_univ (Finset.univ.map ⟨csem, csem_injective⟩))).trans ?_
  rw [bigSep_map]
  refine (Entails.of_eq (all_cells _)).trans ?_
  iintro ⟨Hb, -, H1, -, H3⟩
  isplitl [Hb]
  · iapply (Entails.of_eq (congrArg cred (launch_bar c))); iexact Hb
  isplitl [H1]
  · iapply (Entails.of_eq (bigSep_congr (s := Finset.univ) fun (j : Fin 32) _ => congrArg cred (launch_x c j))); iexact H1
  · iapply (Entails.of_eq (bigSep_congr (s := Finset.univ) fun (j : Fin 32) _ => congrArg cred (launch_y c j))); iexact H3

/-! ## The launch's side conditions -/

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' m ρ c)
      ⊢ |={Set.univ}=> iprop(start m ρ c ∗ emp) := by
  unfold G'
  iintro ⟨-, Hlev, Hcr, -, ⟨%K, HR, Hp, Hd⟩⟩
  ihave Hc := (creds (F := F) c) $$ Hcr
  imodintro
  unfold start ghost facts
  isplitl
  · isplitr [Hc]
    · iexists K
      isplitl [HR Hlev]
      · isplitl [HR] <;> iassumption
      isplitl [Hp] <;> iassumption
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ recQ (F := F) c Finset.univ) from rfl, scopedRest0_eq]
  unfold recQ recP
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = leftover m ρ c from rfl, scopedRest0_eq]
  unfold leftover recP
  iintro ⟨Hr, Hz⟩
  ihave Hz := (Entails.of_eq ((all_cells fun k => semVal (kcell (c, k)) 0).symm.trans (sems0_cells (F := F) c))) $$ Hz
  icases Hz with ⟨Hu, Ho⟩
  isplitl [Hu]; · iexact Hu
  isplitl [Ho]; · iexact Ho
  iexists (recvd m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert s; revert w; decide) _ (by
      rcases t with ⟨_ | _, ht⟩
      · exact Or.inl rfl
      · exact Or.inr rfl)

/-! ## The run -/

/-- An array's contents after the run. -/
def finalA (c : Dev nD) (w : Fin cfg0.W) : Buf (Elt F) ((cfg0.win w).arr.view.loc (c : Thread nD τ)) := (dats m ρ 0 c).arrAt w cfg0.N

/-- Every array of every device holds its final contents. -/
def final : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every semaphore at zero, the program ends on every execution; then every
    array holds its final contents and every semaphore is at zero again. -/
theorem run_main : θ_run defs (onTc (τ := τ) (main (F := F))) (s₀ m ρ) (fun r => final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands' arrays end as they were. -/
theorem finalA_lhs (c : Dev nD) : finalA m ρ c (0 : Fin 3) = m ((c : Thread nD τ).loc main_arg0) :=
  (dats (F := F) m ρ 0 c).arrAt_in (0 : Fin 3) rfl _
theorem finalA_rhs (c : Dev nD) : finalA m ρ c (1 : Fin 3) = m ((c : Thread nD τ).loc main_arg1) :=
  (dats (F := F) m ρ 0 c).arrAt_in (1 : Fin 3) rfl _

end Cert.KernelIdeal.Steps

end
-- ==== Proof.Value.lean ====
/- What the run computes over the extended reals: every device's result is the whole product of the
   two arrays of which the devices hold blocks. -/
module

public import proofs.«01_k».proof.Proof.Run
public import Idealize.ShloMosaic.Lib.MatmulPlain
public import Idealize.ShloMosaic.Lib.StackMember
public import Idealize.ShloMosaic.Lib.Layout

@[expose] public section

noncomputable section

namespace Cert.KernelIdeal.Steps

open Cert.KernelIdeal Cert.KernelIdeal.Gen
open Idealize.ShloMosaic Idealize.ShloMosaic.TcCoe
open Idealize.ShloMosaic.ValueIdx (ix2 eq_ix2)
open Idealize.ShloMosaic.Pipeline (Dat)

section Run

variable {F : FTy → Type} [FloatOps F]
variable (m : (ℓ : Loc nD τ sig) → Buf (Elt F) ℓ) (ρ : Dev nD → PrngReg)

/-! ## The staged arrays are the whole ones -/

theorem lhs_eq (c : Dev nD) : lhs m ρ c = m ((c : Thread nD τ).loc main_arg0) :=
  Memref.read_access_unit_zero (Elt F) main_arg0 (off := fun a => win0_0.index (0 : Fin 1) a * main_arg0.ty.shape.size a)
    (funext fun a => Nat.zero_mul _) (fun a => by rw [show win0_0.index (0 : Fin 1) a * main_arg0.ty.shape.size a = 0 from Nat.zero_mul _, Nat.zero_add]) _

theorem rhs_eq (c : Dev nD) : rhs m ρ c = m ((c : Thread nD τ).loc main_arg1) :=
  Memref.read_access_unit_zero (Elt F) main_arg1 (off := fun a => win0_1.index (0 : Fin 1) a * main_arg1.ty.shape.size a)
    (funext fun a => Nat.zero_mul _) (fun a => by rw [show win0_1.index (0 : Fin 1) a * main_arg1.ty.shape.size a = 0 from Nat.zero_mul _, Nat.zero_add]) _

theorem out_off (t : Fin cfg0.N) : (fun a => win0_2.index t a * main_v1.ty.shape.size a) = fun _ => 0 := funext fun a => Nat.zero_mul _

theorem out_inb (t : Fin cfg0.N) (a) : win0_2.index t a * main_v1.ty.shape.size a + main_v1.ty.shape.size a ≤ main_v1.ty.shape.size a := by
  rw [congrFun (out_off t) a, Nat.zero_add]

/-- The result's array ends holding what the body left. -/
theorem finalA_out (c : Dev nD) : finalA m ρ c (2 : Fin 3) = out m ρ c :=
  (dats m ρ 0 c).arrAt_eq_of_cover (2 : Fin 3) (out m ρ c)
    (fun t _ => (Memref.read_access_unit_zero (Elt F) main_v1 (out_off t) (out_inb t) (out m ρ c)).symm)
    fun i => ⟨t0_0, flush0_2 t0_0, by
      show i ∈ ((View.whole main_v1).slice (Rect.unit (fun a => win0_2.index t0_0 a * main_v1.ty.shape.size a) main_v1.ty.shape.size (out_inb t0_0))).set
      rw [View.set_slice_whole, Rect.mem_set_unit]
      intro a
      rw [show win0_2.index t0_0 a * main_v1.ty.shape.size a = 0 from Nat.zero_mul _, Nat.zero_add]
      exact ⟨Nat.zero_le _, (i a).isLt⟩⟩

/-! ## The loads of a block -/

/-- Block `b` of the rows of device `c`'s half, -/
theorem read_lhs (c : Dev nD) (b : Fin 4) (X : (cc0_stg0_0 : Ref sig .tc).ty.Contents (Elt F)) (r : Fin 128) (k : Fin 512)
    (i : Fin 1024) (hi : i.val = 512 * (c.val % 2) + 128 * b.val + r.val) :
    aM.view.readAt (Elt F) (rLhs c b).toLoadRect X (ix2 r k) = X (ix2 i k) := by
  refine congrArg X (funext fun a => Fin.ext ?_)
  match a with
  | ⟨0, _⟩ => show k0_off1 c _ 0 + 1 * r.val = i.val; rw [k0_off1_eq, Nat.one_mul, hi]; rfl
  | ⟨1, _⟩ => show k0_off1 c (BitVec.ofNat 32 (128 * b.val)) 1 + 1 * k.val = k.val; rw [k0_off1_eq, Nat.one_mul]; exact Nat.zero_add _

/-- and the whole right operand. -/
theorem read_rhs (X : (cc0_stg1_0 : Ref sig .tc).ty.Contents (Elt F)) : bM.view.readAt (Elt F) rRhs.toLoadRect X = X :=
  Memref.readAt_unit_zero (Elt F) cc0_stg1_0 (funext fun a => by fin_cases a <;> rfl) _ X

end Run

/-! ## Over the extended reals -/

variable (m : (ℓ : Loc nD τ sig) → Buf (Elt Ideal) ℓ) (ρ : Dev nD → PrngReg)

/-- A device's two arguments, as arrays of extended reals. -/
abbrev argA (c : Dev nD) : S1024x512.Idx → EReal := m ((c : Thread nD τ).loc main_arg0)
abbrev argB (c : Dev nD) : S512x1024.Idx → EReal := m ((c : Thread nD τ).loc main_arg1)

/-- A block's product at an entry. -/
theorem pay1_apply (v : Vec Ideal S128x512 .f32) (w : Vec Ideal S512x1024 .f32) (r : Fin 128) (n : Fin 1024) :
    k0_pay1 v w (ix2 r n) = ∑ k : Fin 512, v (ix2 r k) * w (ix2 k n) := by
  unfold k0_pay1
  simp only [shapeCast_self]
  refine (Ideal.matmul_plain_apply none v w _ r n).trans ?_
  show Ideal.ofBits .f32 0x00000000#32 + _ = _
  rw [Ideal.ofBits_zero_f32, zero_add]

/-- A device's partial product, at an entry of its half of the rows. -/
theorem part_apply (c : Dev nD) (i : Fin 1024) (n : Fin 1024) (h : i.val / 512 = c.val % 2) :
    @Eq EReal (part m ρ c (ix2 i n)) (∑ k : Fin 512, argA m c (ix2 i k) * argB m c (ix2 k n)) := by
  show blkV m ρ c ⟨i.val % 512 / 128, _⟩ (ix2 ⟨i.val % 128, _⟩ n) = _
  unfold blkV
  rw [pay1_apply, read_rhs, lhs_eq, rhs_eq]
  refine Finset.sum_congr rfl fun k _ => ?_
  rw [read_lhs c _ _ _ k i (by have := i.isLt; show i.val = 512 * (c.val % 2) + 128 * (i.val % 512 / 128) + i.val % 128; omega)]

/-- The half of the whole product's sum that devices at `x` along the first axis hold. -/
def halfDot (A B : S1024x1024.Idx → EReal) (x : Fin 2) (i n : Fin 1024) : EReal :=
  ∑ k : Fin 512, A (ix2 i ⟨512 * x.val + k.val, by omega⟩) * B (ix2 ⟨512 * x.val + k.val, by omega⟩ n)

/-- The whole sum is the two halves', -/
theorem dot_halves (A B : S1024x1024.Idx → EReal) (i n : Fin 1024) :
    ∑ k : Fin 1024, A (ix2 i k) * B (ix2 k n) = halfDot A B 0 i n + halfDot A B 1 i n := by
  rw [show (∑ k : Fin 1024, A (ix2 i k) * B (ix2 k n)) = ∑ k : Fin (512 + 512), A (ix2 i k) * B (ix2 k n) from rfl, Fin.sum_univ_add]
  unfold halfDot
  refine congrArg (· + _) (Finset.sum_congr rfl fun k _ => ?_)
  rw [show (Fin.castAdd 512 k : Fin 1024) = ⟨512 * (0 : Fin 2).val + k.val, by have := k.isLt; show 512 * 0 + _ < _; omega⟩ from Fin.ext (Nat.zero_add _).symm]

/-- in either order. -/
theorem dot_pair (A B : S1024x1024.Idx → EReal) (x y : Fin 2) (h : x ≠ y) (i n : Fin 1024) :
    halfDot A B x i n + halfDot A B y i n = ∑ k : Fin 1024, A (ix2 i k) * B (ix2 k n) := by
  rw [dot_halves]
  match x, y with
  | 0, 0 => exact absurd rfl h
  | 0, 1 => rfl
  | 1, 0 => exact add_comm _ _
  | 1, 1 => exact absurd rfl h

/-- A device's first coordinate. -/
def xOf (c : Dev nD) : Fin 2 := ⟨c.val / 2, by have : c.val < 4 := c.isLt; omega⟩

theorem xOf_xn (c : Dev nD) : xOf c ≠ xOf (xn c) := by revert c; decide

/-- The block of the left operand that device `c` holds, -/
theorem block_lhs (c : Dev nD) (A : S1024x1024.Idx → EReal) (i : Fin 1024) (k : Fin 512) :
    (Layout.blockN ⟨2, ![1024, 512]⟩ ⟨2, ![1024, 1024]⟩ (Layout.meshBlock [2, 2] ![[], [0]] c) A :) (ix2 i k)
      = A (ix2 i ⟨512 * (xOf c).val + k.val, by omega⟩) := by
  rw [Layout.blockN_apply]
  refine congrArg A (funext fun a => Fin.ext ?_)
  match a with
  | ⟨0, _⟩ => show 0 * 1024 + i.val = i.val; omega
  | ⟨1, _⟩ =>
    have h : ∀ c : Dev nD, Layout.meshLin [2, 2] c.val [0] = c.val / 2 := by decide
    show Layout.meshLin [2, 2] c.val [0] * 512 + k.val = 512 * (c.val / 2) + k.val
    rw [h, Nat.mul_comm]

/-- and of the right. -/
theorem block_rhs (c : Dev nD) (B : S1024x1024.Idx → EReal) (k : Fin 512) (n : Fin 1024) :
    (Layout.blockN ⟨2, ![512, 1024]⟩ ⟨2, ![1024, 1024]⟩ (Layout.meshBlock [2, 2] ![[0], []] c) B :) (ix2 k n)
      = B (ix2 ⟨512 * (xOf c).val + k.val, by omega⟩ n) := by
  rw [Layout.blockN_apply]
  refine congrArg B (funext fun a => Fin.ext ?_)
  match a with
  | ⟨0, _⟩ =>
    have h : ∀ c : Dev nD, Layout.meshLin [2, 2] c.val [0] = c.val / 2 := by decide
    show Layout.meshLin [2, 2] c.val [0] * 512 + k.val = 512 * (c.val / 2) + k.val
    rw [h, Nat.mul_comm]
  | ⟨1, _⟩ => show 0 * 1024 + n.val = n.val; omega

section Blocks

variable (A B : S1024x1024.Idx → EReal)
  (hA : ∀ c : Dev nD, argA m c
    = Layout.blockN ⟨2, ![1024, 512]⟩ ⟨2, ![1024, 1024]⟩ (Layout.meshBlock [2, 2] ![[], [0]] c) A)
  (hB : ∀ c : Dev nD, argB m c
    = Layout.blockN ⟨2, ![512, 1024]⟩ ⟨2, ![1024, 1024]⟩ (Layout.meshBlock [2, 2] ![[0], []] c) B)
include hA hB

/-- Where the devices hold blocks of `A` and `B`, a partial product is half of the product's sum, -/
theorem part_half (c : Dev nD) (i n : Fin 1024) (h : i.val / 512 = c.val % 2) :
    @Eq EReal (part m ρ c (ix2 i n)) (halfDot A B (xOf c) i n) := by
  rw [part_apply m ρ c i n h]
  unfold halfDot
  refine Finset.sum_congr rfl fun k _ => ?_
  rw [hA, hB, block_lhs, block_rhs]

/-- and two neighbours' sum is the product's entry. -/
theorem total_dot (c : Dev nD) (i n : Fin 1024) (h : i.val / 512 = c.val % 2) :
    @Eq EReal (total m ρ c (ix2 i n)) (∑ k : Fin 1024, A (ix2 i k) * B (ix2 k n)) := by
  show @HAdd.hAdd EReal EReal EReal _ (part m ρ c (ix2 i n)) (part m ρ (xn c) (ix2 i n)) = _
  rw [part_half m ρ A B hA hB c i n h, part_half m ρ A B hA hB (xn c) i n (by rw [xn_mod]; exact h)]
  exact dot_pair A B _ _ (xOf_xn c) i n

/-- Every device's output is the whole product. -/
theorem out_dot (c : Dev nD) (i n : Fin 1024) : @Eq EReal (out m ρ c (ix2 i n)) (∑ k : Fin 1024, A (ix2 i k) * B (ix2 k n)) := by
  unfold out
  split
  · rename_i h; exact total_dot m ρ A B hA hB c i n h
  · rename_i h
    refine total_dot m ρ A B hA hB (yn c) i n ?_
    have h' : ¬ i.val / 512 = c.val % 2 := h
    have := yn_val c
    have := c.isLt
    have := i.isLt
    simp only [nD] at *
    omega

end Blocks

end Cert.KernelIdeal.Steps

end
-- ==== Proof.lean ====
/- The claims: each program ends on every execution with its arguments unchanged and every semaphore
   at zero, and over the extended reals the kernel's result on every device is the reference's product. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem
open Cert.KernelIdeal.Steps (run_main finalA_lhs finalA_rhs finalA_out out_dot)

/-! ## The frames -/

section Same

variable {F : FTy → Type} [FloatOps F]

/-- The kernel and its idealization are the same text: their bodies are equal, label by label, -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun ⟨_, _⟩ => rfl

/-- and so are their definitions. -/
theorem defs_eq : Cert.Kernel.defs (F := F) = Cert.KernelIdeal.defs (F := F) :=
  congrArg (Pipeline.defs Cert.KernelIdeal.pcfgs) bodies_eq

/-- What the idealization's run ends with, the kernel's does. -/
theorem run_kernel (s : MemSt Cert.KernelIdeal.nD Cert.KernelIdeal.τ Cert.KernelIdeal.sig (Elt F)) (post) :
    θ_run Cert.KernelIdeal.defs (onTc (τ := Cert.KernelIdeal.τ) (Cert.KernelIdeal.main (F := F))) s post
      → θ_run (Cert.Kernel.defs (F := F)) (onTc (τ := Cert.Kernel.τ) (Cert.Kernel.main (F := F))) s post := by
  rw [defs_eq]; exact id

end Same

/-- The kernel's frame: the idealization's run, at machine floats. -/
theorem frame_kernel : Cert.quiescent_Kernel := fun m ρ _ =>
  run_kernel _ _ ((θ_run Cert.KernelIdeal.defs _ _).mono
    (fun _ h => ⟨fun c => ⟨(h.1 c 0).trans (finalA_lhs m ρ c), (h.1 c 1).trans (finalA_rhs m ρ c)⟩, h.2⟩)
    (run_main (F := Bits) m ρ))

/-- The idealization's frame. -/
theorem frame_ideal : Cert.quiescent_KernelIdeal := fun m ρ _ =>
  (θ_run Cert.KernelIdeal.defs _ _).mono
    (fun _ h => ⟨fun c => ⟨(h.1 c 0).trans (finalA_lhs m ρ c), (h.1 c 1).trans (finalA_rhs m ρ c)⟩, h.2⟩)
    (run_main (F := Ideal) m ρ)

/-- The reference names no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The value -/

/-- The reference's product at an entry. -/
theorem reference_apply (A B : FVec Ideal Cert.ReferenceIdeal.S1024x1024 .f32) (i n : Fin 1024) :
    Host.dotGeneral Cert.ReferenceIdeal.dot_S1024x1024_S1024x1024_S1024x1024_1_0_0_1_n_n none A B (ValueIdx.ix2 i n)
      = ∑ k : Fin 1024, A (ValueIdx.ix2 i k) * B (ValueIdx.ix2 k n) :=
  StackMember.dotGeneral_plain_apply none A B i n

/-- Every device ends with the whole product, which is what the reference computes. -/
theorem algebraic : Cert.algebraic_KernelIdeal_ReferenceIdeal := by
  intro m ρ m' ρ' _ hin
  refine ⟨_, (θ_run Cert.KernelIdeal.defs _ _).mono (fun r h c => ⟨(h.1 c 2).trans ?_, (h.1 c 0).trans (finalA_lhs m ρ c),
    (h.1 c 1).trans (finalA_rhs m ρ c)⟩) (run_main (F := Ideal) m ρ), (θ_run Cert.ReferenceIdeal.defs _ _).mono (fun r h => h 0)
    (Cert.ReferenceIdeal.Value.run (F := Ideal) m' ρ')⟩
  rw [finalA_out]
  funext i
  rw [ValueIdx.eq_ix2 i]
  exact (out_dot m ρ _ _ (fun c => (hin c).1) (fun c => (hin c).2) c (i 0) (i 1)).trans (reference_apply _ _ (i 0) (i 1)).symm

theorem claim : Cert.Claim := ⟨Cert.Kernel.Gen.facts, Cert.KernelIdeal.Gen.facts, Cert.ReferenceIdeal.Gen.facts,
  frame_kernel, frame_ideal, frame_reference, trivial, algebraic⟩

end Cert.Proof

end
